-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 64]⟩ ⟨2, ![4096, 2048]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x2048 : Shape := ⟨2, ![4096, 2048]⟩
abbrev S1 : Shape := ⟨1, ![1]⟩
abbrev S4096x64 : Shape := ⟨2, ![4096, 64]⟩
abbrev S2x4096x256 : Shape := ⟨3, ![2, 4096, 256]⟩
abbrev S32x128x64 : Shape := ⟨3, ![32, 128, 64]⟩
abbrev S2 : Shape := ⟨1, ![2]⟩
abbrev S32 : Shape := ⟨1, ![32]⟩
abbrev S_ : Shape := ⟨0, ![]⟩
abbrev S1x4096x256 : Shape := ⟨3, ![1, 4096, 256]⟩
abbrev S4096x256 : Shape := ⟨2, ![4096, 256]⟩
abbrev S128x256 : Shape := ⟨2, ![128, 256]⟩
abbrev S128x64 : Shape := ⟨2, ![128, 64]⟩
abbrev S1x128x64 : Shape := ⟨3, ![1, 128, 64]⟩

abbrev nBuf : Space → Nat
  | .hbm => 5
  | .vmem => 5
  | .smem => 2
  | _ => 0

abbrev bufTy : (tb : Table) → Fin (tcTables nBuf tb) → BufTy
  | .hbm, ⟨0, _⟩ => ⟨S128x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x64, .f32⟩
  | .local _ .vmem, ⟨0, _⟩ => ⟨S128x4096, .f32⟩
  | .local _ .vmem, ⟨1, _⟩ => ⟨S4096x64, .f32⟩
  | .local _ .vmem, ⟨2, _⟩ => ⟨S2x4096x256, .f32⟩
  | .local _ .vmem, ⟨3, _⟩ => ⟨S32x128x64, .bf16⟩
  | .local _ .vmem, ⟨4, _⟩ => ⟨S32x128x64, .bf16⟩
  | .local _ .smem, ⟨0, _⟩ => ⟨S1, .f32⟩
  | .local _ .smem, ⟨1, _⟩ => ⟨S1, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c0_i32_289 : BitVec 32) : Fin 2 → Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v429 : BitVec 32 := Scalar.addi c0_i32_289 v428
  let c8_i32_290 : BitVec 32 := 8#32
  let v430 : BitVec 32 := Scalar.remsi v429 c8_i32_290
  let c256_i32 : BitVec 32 := 256#32
  let v431 : BitVec 32 := Scalar.muli v430 c256_i32
  ![0, v431.toNat]
def k0_cond1 (d0 : Dev nD) : BitVec 1 :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_315 : BitVec 32 := 4#32
  let v458 : BitVec 32 := Scalar.muli v451 c4_i32_315
  let c0_i32_316 : BitVec 32 := 0#32
  let v459 : BitVec 32 := Scalar.addi v458 c0_i32_316
  let v460 : BitVec 1 := Scalar.cmpi .eq v459 v2
  let v461 : BitVec 32 := Scalar.extui v460
  let c0_i32_317 : BitVec 32 := 0#32
  let v462 : BitVec 1 := Scalar.cmpi .ne v461 c0_i32_317
  v462

def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_off3 (d0 : Dev nD) (c0_i32_309 : BitVec 32) (c0_i32_316 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_315 : BitVec 32 := 4#32
  let v458 : BitVec 32 := Scalar.muli v451 c4_i32_315
  let v459 : BitVec 32 := Scalar.addi v458 c0_i32_316
  let v464 : Index := Scalar.indexCast v459
  let c0_318 : Index := 0#32
  let c0_319 : Index := 0#32
  ![v464.toNat, 0, 0]
def k0_cond2 (d0 : Dev nD) : BitVec 1 :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_315 : BitVec 32 := 4#32
  let v458 : BitVec 32 := Scalar.muli v451 c4_i32_315
  let c0_i32_316 : BitVec 32 := 0#32
  let v459 : BitVec 32 := Scalar.addi v458 c0_i32_316
  let v468 : BitVec 1 := Scalar.cmpi .ne v459 v2
  let v469 : BitVec 32 := Scalar.extui v468
  let c0_i32_320 : BitVec 32 := 0#32
  let v470 : BitVec 1 := Scalar.cmpi .ne v469 c0_i32_320
  v470

def k0_off4 (d0 : Dev nD) : Fin 1 → Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_315 : BitVec 32 := 4#32
  let v458 : BitVec 32 := Scalar.muli v451 c4_i32_315
  let c0_i32_316 : BitVec 32 := 0#32
  let v459 : BitVec 32 := Scalar.addi v458 c0_i32_316
  ![v459.toNat]
def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off7 (d0 : Dev nD) : Fin 3 → Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_315 : BitVec 32 := 4#32
  let v458 : BitVec 32 := Scalar.muli v451 c4_i32_315
  let c0_i32_316 : BitVec 32 := 0#32
  let v459 : BitVec 32 := Scalar.addi v458 c0_i32_316
  let c0_i32_1191 : BitVec 32 := 0#32
  let c0_i32_1192 : BitVec 32 := 0#32
  ![v459.toNat, 0, 0]
def k0_dev32 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_315 : BitVec 32 := 4#32
  let v458 : BitVec 32 := Scalar.muli v451 c4_i32_315
  let c0_i32_316 : BitVec 32 := 0#32
  let v459 : BitVec 32 := Scalar.addi v458 c0_i32_316
  v459.toNat
def k0_cond3 (d0 : Dev nD) : BitVec 1 :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_321 : BitVec 32 := 4#32
  let v471 : BitVec 32 := Scalar.muli v451 c4_i32_321
  let c1_i32_322 : BitVec 32 := 1#32
  let v472 : BitVec 32 := Scalar.addi v471 c1_i32_322
  let v473 : BitVec 1 := Scalar.cmpi .eq v472 v2
  let v474 : BitVec 32 := Scalar.extui v473
  let c0_i32_323 : BitVec 32 := 0#32
  let v475 : BitVec 1 := Scalar.cmpi .ne v474 c0_i32_323
  v475

def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond4 (d0 : Dev nD) : BitVec 1 :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_321 : BitVec 32 := 4#32
  let v471 : BitVec 32 := Scalar.muli v451 c4_i32_321
  let c1_i32_322 : BitVec 32 := 1#32
  let v472 : BitVec 32 := Scalar.addi v471 c1_i32_322
  let v481 : BitVec 1 := Scalar.cmpi .ne v472 v2
  let v482 : BitVec 32 := Scalar.extui v481
  let c0_i32_326 : BitVec 32 := 0#32
  let v483 : BitVec 1 := Scalar.cmpi .ne v482 c0_i32_326
  v483

def k0_off9 (d0 : Dev nD) : Fin 1 → Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_321 : BitVec 32 := 4#32
  let v471 : BitVec 32 := Scalar.muli v451 c4_i32_321
  let c1_i32_322 : BitVec 32 := 1#32
  let v472 : BitVec 32 := Scalar.addi v471 c1_i32_322
  ![v472.toNat]
def k0_off10 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off12 (d0 : Dev nD) : Fin 3 → Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_321 : BitVec 32 := 4#32
  let v471 : BitVec 32 := Scalar.muli v451 c4_i32_321
  let c1_i32_322 : BitVec 32 := 1#32
  let v472 : BitVec 32 := Scalar.addi v471 c1_i32_322
  let c0_i32_1191 : BitVec 32 := 0#32
  let c0_i32_1192 : BitVec 32 := 0#32
  ![v472.toNat, 0, 0]
def k0_dev33 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_321 : BitVec 32 := 4#32
  let v471 : BitVec 32 := Scalar.muli v451 c4_i32_321
  let c1_i32_322 : BitVec 32 := 1#32
  let v472 : BitVec 32 := Scalar.addi v471 c1_i32_322
  v472.toNat
def k0_cond5 (d0 : Dev nD) : BitVec 1 :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_327 : BitVec 32 := 4#32
  let v484 : BitVec 32 := Scalar.muli v451 c4_i32_327
  let c2_i32_328 : BitVec 32 := 2#32
  let v485 : BitVec 32 := Scalar.addi v484 c2_i32_328
  let v486 : BitVec 1 := Scalar.cmpi .eq v485 v2
  let v487 : BitVec 32 := Scalar.extui v486
  let c0_i32_329 : BitVec 32 := 0#32
  let v488 : BitVec 1 := Scalar.cmpi .ne v487 c0_i32_329
  v488

def k0_off13 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond6 (d0 : Dev nD) : BitVec 1 :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_327 : BitVec 32 := 4#32
  let v484 : BitVec 32 := Scalar.muli v451 c4_i32_327
  let c2_i32_328 : BitVec 32 := 2#32
  let v485 : BitVec 32 := Scalar.addi v484 c2_i32_328
  let v494 : BitVec 1 := Scalar.cmpi .ne v485 v2
  let v495 : BitVec 32 := Scalar.extui v494
  let c0_i32_332 : BitVec 32 := 0#32
  let v496 : BitVec 1 := Scalar.cmpi .ne v495 c0_i32_332
  v496

def k0_off14 (d0 : Dev nD) : Fin 1 → Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_327 : BitVec 32 := 4#32
  let v484 : BitVec 32 := Scalar.muli v451 c4_i32_327
  let c2_i32_328 : BitVec 32 := 2#32
  let v485 : BitVec 32 := Scalar.addi v484 c2_i32_328
  ![v485.toNat]
def k0_off15 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off17 (d0 : Dev nD) : Fin 3 → Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_327 : BitVec 32 := 4#32
  let v484 : BitVec 32 := Scalar.muli v451 c4_i32_327
  let c2_i32_328 : BitVec 32 := 2#32
  let v485 : BitVec 32 := Scalar.addi v484 c2_i32_328
  let c0_i32_1191 : BitVec 32 := 0#32
  let c0_i32_1192 : BitVec 32 := 0#32
  ![v485.toNat, 0, 0]
def k0_dev34 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_327 : BitVec 32 := 4#32
  let v484 : BitVec 32 := Scalar.muli v451 c4_i32_327
  let c2_i32_328 : BitVec 32 := 2#32
  let v485 : BitVec 32 := Scalar.addi v484 c2_i32_328
  v485.toNat
def k0_cond7 (d0 : Dev nD) : BitVec 1 :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_333 : BitVec 32 := 4#32
  let v497 : BitVec 32 := Scalar.muli v451 c4_i32_333
  let c3_i32_334 : BitVec 32 := 3#32
  let v498 : BitVec 32 := Scalar.addi v497 c3_i32_334
  let v499 : BitVec 1 := Scalar.cmpi .eq v498 v2
  let v500 : BitVec 32 := Scalar.extui v499
  let c0_i32_335 : BitVec 32 := 0#32
  let v501 : BitVec 1 := Scalar.cmpi .ne v500 c0_i32_335
  v501

def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond8 (d0 : Dev nD) : BitVec 1 :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_333 : BitVec 32 := 4#32
  let v497 : BitVec 32 := Scalar.muli v451 c4_i32_333
  let c3_i32_334 : BitVec 32 := 3#32
  let v498 : BitVec 32 := Scalar.addi v497 c3_i32_334
  let v507 : BitVec 1 := Scalar.cmpi .ne v498 v2
  let v508 : BitVec 32 := Scalar.extui v507
  let c0_i32_338 : BitVec 32 := 0#32
  let v509 : BitVec 1 := Scalar.cmpi .ne v508 c0_i32_338
  v509

def k0_off19 (d0 : Dev nD) : Fin 1 → Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_333 : BitVec 32 := 4#32
  let v497 : BitVec 32 := Scalar.muli v451 c4_i32_333
  let c3_i32_334 : BitVec 32 := 3#32
  let v498 : BitVec 32 := Scalar.addi v497 c3_i32_334
  ![v498.toNat]
def k0_off20 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off22 (d0 : Dev nD) : Fin 3 → Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_333 : BitVec 32 := 4#32
  let v497 : BitVec 32 := Scalar.muli v451 c4_i32_333
  let c3_i32_334 : BitVec 32 := 3#32
  let v498 : BitVec 32 := Scalar.addi v497 c3_i32_334
  let c0_i32_1191 : BitVec 32 := 0#32
  let c0_i32_1192 : BitVec 32 := 0#32
  ![v498.toNat, 0, 0]
def k0_dev35 (d0 : Dev nD) : Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_333 : BitVec 32 := 4#32
  let v497 : BitVec 32 := Scalar.muli v451 c4_i32_333
  let c3_i32_334 : BitVec 32 := 3#32
  let v498 : BitVec 32 := Scalar.addi v497 c3_i32_334
  v498.toNat
def k0_cond9 (d0 : Dev nD) : BitVec 1 :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_357 : BitVec 32 := 4#32
  let v531 : BitVec 32 := Scalar.muli v524 c4_i32_357
  let c0_i32_358 : BitVec 32 := 0#32
  let v532 : BitVec 32 := Scalar.addi v531 c0_i32_358
  let v533 : BitVec 1 := Scalar.cmpi .eq v532 v2
  let v534 : BitVec 32 := Scalar.extui v533
  let c0_i32_359 : BitVec 32 := 0#32
  let v535 : BitVec 1 := Scalar.cmpi .ne v534 c0_i32_359
  v535

def k0_off23 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond10 (d0 : Dev nD) : BitVec 1 :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_357 : BitVec 32 := 4#32
  let v531 : BitVec 32 := Scalar.muli v524 c4_i32_357
  let c0_i32_358 : BitVec 32 := 0#32
  let v532 : BitVec 32 := Scalar.addi v531 c0_i32_358
  let v541 : BitVec 1 := Scalar.cmpi .ne v532 v2
  let v542 : BitVec 32 := Scalar.extui v541
  let c0_i32_362 : BitVec 32 := 0#32
  let v543 : BitVec 1 := Scalar.cmpi .ne v542 c0_i32_362
  v543

def k0_off24 (d0 : Dev nD) : Fin 1 → Nat :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_357 : BitVec 32 := 4#32
  let v531 : BitVec 32 := Scalar.muli v524 c4_i32_357
  let c0_i32_358 : BitVec 32 := 0#32
  let v532 : BitVec 32 := Scalar.addi v531 c0_i32_358
  ![v532.toNat]
def k0_off25 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off27 (d0 : Dev nD) : Fin 3 → Nat :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_357 : BitVec 32 := 4#32
  let v531 : BitVec 32 := Scalar.muli v524 c4_i32_357
  let c0_i32_358 : BitVec 32 := 0#32
  let v532 : BitVec 32 := Scalar.addi v531 c0_i32_358
  let c0_i32_1191 : BitVec 32 := 0#32
  let c0_i32_1192 : BitVec 32 := 0#32
  ![v532.toNat, 0, 0]
def k0_dev36 (d0 : Dev nD) : Nat :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_357 : BitVec 32 := 4#32
  let v531 : BitVec 32 := Scalar.muli v524 c4_i32_357
  let c0_i32_358 : BitVec 32 := 0#32
  let v532 : BitVec 32 := Scalar.addi v531 c0_i32_358
  v532.toNat
def k0_cond11 (d0 : Dev nD) : BitVec 1 :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_363 : BitVec 32 := 4#32
  let v544 : BitVec 32 := Scalar.muli v524 c4_i32_363
  let c1_i32_364 : BitVec 32 := 1#32
  let v545 : BitVec 32 := Scalar.addi v544 c1_i32_364
  let v546 : BitVec 1 := Scalar.cmpi .eq v545 v2
  let v547 : BitVec 32 := Scalar.extui v546
  let c0_i32_365 : BitVec 32 := 0#32
  let v548 : BitVec 1 := Scalar.cmpi .ne v547 c0_i32_365
  v548

def k0_off28 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond12 (d0 : Dev nD) : BitVec 1 :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_363 : BitVec 32 := 4#32
  let v544 : BitVec 32 := Scalar.muli v524 c4_i32_363
  let c1_i32_364 : BitVec 32 := 1#32
  let v545 : BitVec 32 := Scalar.addi v544 c1_i32_364
  let v554 : BitVec 1 := Scalar.cmpi .ne v545 v2
  let v555 : BitVec 32 := Scalar.extui v554
  let c0_i32_368 : BitVec 32 := 0#32
  let v556 : BitVec 1 := Scalar.cmpi .ne v555 c0_i32_368
  v556

def k0_off29 (d0 : Dev nD) : Fin 1 → Nat :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_363 : BitVec 32 := 4#32
  let v544 : BitVec 32 := Scalar.muli v524 c4_i32_363
  let c1_i32_364 : BitVec 32 := 1#32
  let v545 : BitVec 32 := Scalar.addi v544 c1_i32_364
  ![v545.toNat]
def k0_off30 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off32 (d0 : Dev nD) : Fin 3 → Nat :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_363 : BitVec 32 := 4#32
  let v544 : BitVec 32 := Scalar.muli v524 c4_i32_363
  let c1_i32_364 : BitVec 32 := 1#32
  let v545 : BitVec 32 := Scalar.addi v544 c1_i32_364
  let c0_i32_1191 : BitVec 32 := 0#32
  let c0_i32_1192 : BitVec 32 := 0#32
  ![v545.toNat, 0, 0]
def k0_dev37 (d0 : Dev nD) : Nat :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_363 : BitVec 32 := 4#32
  let v544 : BitVec 32 := Scalar.muli v524 c4_i32_363
  let c1_i32_364 : BitVec 32 := 1#32
  let v545 : BitVec 32 := Scalar.addi v544 c1_i32_364
  v545.toNat
def k0_cond13 (d0 : Dev nD) : BitVec 1 :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_369 : BitVec 32 := 4#32
  let v557 : BitVec 32 := Scalar.muli v524 c4_i32_369
  let c2_i32_370 : BitVec 32 := 2#32
  let v558 : BitVec 32 := Scalar.addi v557 c2_i32_370
  let v559 : BitVec 1 := Scalar.cmpi .eq v558 v2
  let v560 : BitVec 32 := Scalar.extui v559
  let c0_i32_371 : BitVec 32 := 0#32
  let v561 : BitVec 1 := Scalar.cmpi .ne v560 c0_i32_371
  v561

def k0_off33 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond14 (d0 : Dev nD) : BitVec 1 :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_369 : BitVec 32 := 4#32
  let v557 : BitVec 32 := Scalar.muli v524 c4_i32_369
  let c2_i32_370 : BitVec 32 := 2#32
  let v558 : BitVec 32 := Scalar.addi v557 c2_i32_370
  let v567 : BitVec 1 := Scalar.cmpi .ne v558 v2
  let v568 : BitVec 32 := Scalar.extui v567
  let c0_i32_374 : BitVec 32 := 0#32
  let v569 : BitVec 1 := Scalar.cmpi .ne v568 c0_i32_374
  v569

def k0_off34 (d0 : Dev nD) : Fin 1 → Nat :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_369 : BitVec 32 := 4#32
  let v557 : BitVec 32 := Scalar.muli v524 c4_i32_369
  let c2_i32_370 : BitVec 32 := 2#32
  let v558 : BitVec 32 := Scalar.addi v557 c2_i32_370
  ![v558.toNat]
def k0_off35 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off37 (d0 : Dev nD) : Fin 3 → Nat :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_369 : BitVec 32 := 4#32
  let v557 : BitVec 32 := Scalar.muli v524 c4_i32_369
  let c2_i32_370 : BitVec 32 := 2#32
  let v558 : BitVec 32 := Scalar.addi v557 c2_i32_370
  let c0_i32_1191 : BitVec 32 := 0#32
  let c0_i32_1192 : BitVec 32 := 0#32
  ![v558.toNat, 0, 0]
def k0_dev38 (d0 : Dev nD) : Nat :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_369 : BitVec 32 := 4#32
  let v557 : BitVec 32 := Scalar.muli v524 c4_i32_369
  let c2_i32_370 : BitVec 32 := 2#32
  let v558 : BitVec 32 := Scalar.addi v557 c2_i32_370
  v558.toNat
def k0_cond15 (d0 : Dev nD) : BitVec 1 :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_375 : BitVec 32 := 4#32
  let v570 : BitVec 32 := Scalar.muli v524 c4_i32_375
  let c3_i32_376 : BitVec 32 := 3#32
  let v571 : BitVec 32 := Scalar.addi v570 c3_i32_376
  let v572 : BitVec 1 := Scalar.cmpi .eq v571 v2
  let v573 : BitVec 32 := Scalar.extui v572
  let c0_i32_377 : BitVec 32 := 0#32
  let v574 : BitVec 1 := Scalar.cmpi .ne v573 c0_i32_377
  v574

def k0_off38 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond16 (d0 : Dev nD) : BitVec 1 :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_375 : BitVec 32 := 4#32
  let v570 : BitVec 32 := Scalar.muli v524 c4_i32_375
  let c3_i32_376 : BitVec 32 := 3#32
  let v571 : BitVec 32 := Scalar.addi v570 c3_i32_376
  let v580 : BitVec 1 := Scalar.cmpi .ne v571 v2
  let v581 : BitVec 32 := Scalar.extui v580
  let c0_i32_380 : BitVec 32 := 0#32
  let v582 : BitVec 1 := Scalar.cmpi .ne v581 c0_i32_380
  v582

def k0_off39 (d0 : Dev nD) : Fin 1 → Nat :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_375 : BitVec 32 := 4#32
  let v570 : BitVec 32 := Scalar.muli v524 c4_i32_375
  let c3_i32_376 : BitVec 32 := 3#32
  let v571 : BitVec 32 := Scalar.addi v570 c3_i32_376
  ![v571.toNat]
def k0_off40 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off41 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off42 (d0 : Dev nD) : Fin 3 → Nat :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_375 : BitVec 32 := 4#32
  let v570 : BitVec 32 := Scalar.muli v524 c4_i32_375
  let c3_i32_376 : BitVec 32 := 3#32
  let v571 : BitVec 32 := Scalar.addi v570 c3_i32_376
  let c0_i32_1191 : BitVec 32 := 0#32
  let c0_i32_1192 : BitVec 32 := 0#32
  ![v571.toNat, 0, 0]
def k0_dev39 (d0 : Dev nD) : Nat :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_375 : BitVec 32 := 4#32
  let v570 : BitVec 32 := Scalar.muli v524 c4_i32_375
  let c3_i32_376 : BitVec 32 := 3#32
  let v571 : BitVec 32 := Scalar.addi v570 c3_i32_376
  v571.toNat
def k0_cond17 (d0 : Dev nD) : BitVec 1 :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_400 : BitVec 32 := 4#32
  let v604 : BitVec 32 := Scalar.muli v597 c4_i32_400
  let c0_i32_401 : BitVec 32 := 0#32
  let v605 : BitVec 32 := Scalar.addi v604 c0_i32_401
  let v606 : BitVec 1 := Scalar.cmpi .eq v605 v2
  let v607 : BitVec 32 := Scalar.extui v606
  let c0_i32_402 : BitVec 32 := 0#32
  let v608 : BitVec 1 := Scalar.cmpi .ne v607 c0_i32_402
  v608

def k0_off43 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond18 (d0 : Dev nD) : BitVec 1 :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_400 : BitVec 32 := 4#32
  let v604 : BitVec 32 := Scalar.muli v597 c4_i32_400
  let c0_i32_401 : BitVec 32 := 0#32
  let v605 : BitVec 32 := Scalar.addi v604 c0_i32_401
  let v614 : BitVec 1 := Scalar.cmpi .ne v605 v2
  let v615 : BitVec 32 := Scalar.extui v614
  let c0_i32_405 : BitVec 32 := 0#32
  let v616 : BitVec 1 := Scalar.cmpi .ne v615 c0_i32_405
  v616

def k0_off44 (d0 : Dev nD) : Fin 1 → Nat :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_400 : BitVec 32 := 4#32
  let v604 : BitVec 32 := Scalar.muli v597 c4_i32_400
  let c0_i32_401 : BitVec 32 := 0#32
  let v605 : BitVec 32 := Scalar.addi v604 c0_i32_401
  ![v605.toNat]
def k0_off45 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off47 (d0 : Dev nD) : Fin 3 → Nat :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_400 : BitVec 32 := 4#32
  let v604 : BitVec 32 := Scalar.muli v597 c4_i32_400
  let c0_i32_401 : BitVec 32 := 0#32
  let v605 : BitVec 32 := Scalar.addi v604 c0_i32_401
  let c0_i32_1191 : BitVec 32 := 0#32
  let c0_i32_1192 : BitVec 32 := 0#32
  ![v605.toNat, 0, 0]
def k0_dev40 (d0 : Dev nD) : Nat :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_400 : BitVec 32 := 4#32
  let v604 : BitVec 32 := Scalar.muli v597 c4_i32_400
  let c0_i32_401 : BitVec 32 := 0#32
  let v605 : BitVec 32 := Scalar.addi v604 c0_i32_401
  v605.toNat
def k0_cond19 (d0 : Dev nD) : BitVec 1 :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_406 : BitVec 32 := 4#32
  let v617 : BitVec 32 := Scalar.muli v597 c4_i32_406
  let c1_i32_407 : BitVec 32 := 1#32
  let v618 : BitVec 32 := Scalar.addi v617 c1_i32_407
  let v619 : BitVec 1 := Scalar.cmpi .eq v618 v2
  let v620 : BitVec 32 := Scalar.extui v619
  let c0_i32_408 : BitVec 32 := 0#32
  let v621 : BitVec 1 := Scalar.cmpi .ne v620 c0_i32_408
  v621

def k0_off48 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond20 (d0 : Dev nD) : BitVec 1 :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_406 : BitVec 32 := 4#32
  let v617 : BitVec 32 := Scalar.muli v597 c4_i32_406
  let c1_i32_407 : BitVec 32 := 1#32
  let v618 : BitVec 32 := Scalar.addi v617 c1_i32_407
  let v627 : BitVec 1 := Scalar.cmpi .ne v618 v2
  let v628 : BitVec 32 := Scalar.extui v627
  let c0_i32_411 : BitVec 32 := 0#32
  let v629 : BitVec 1 := Scalar.cmpi .ne v628 c0_i32_411
  v629

def k0_off49 (d0 : Dev nD) : Fin 1 → Nat :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_406 : BitVec 32 := 4#32
  let v617 : BitVec 32 := Scalar.muli v597 c4_i32_406
  let c1_i32_407 : BitVec 32 := 1#32
  let v618 : BitVec 32 := Scalar.addi v617 c1_i32_407
  ![v618.toNat]
def k0_off50 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off51 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off52 (d0 : Dev nD) : Fin 3 → Nat :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_406 : BitVec 32 := 4#32
  let v617 : BitVec 32 := Scalar.muli v597 c4_i32_406
  let c1_i32_407 : BitVec 32 := 1#32
  let v618 : BitVec 32 := Scalar.addi v617 c1_i32_407
  let c0_i32_1191 : BitVec 32 := 0#32
  let c0_i32_1192 : BitVec 32 := 0#32
  ![v618.toNat, 0, 0]
def k0_dev41 (d0 : Dev nD) : Nat :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_406 : BitVec 32 := 4#32
  let v617 : BitVec 32 := Scalar.muli v597 c4_i32_406
  let c1_i32_407 : BitVec 32 := 1#32
  let v618 : BitVec 32 := Scalar.addi v617 c1_i32_407
  v618.toNat
def k0_cond21 (d0 : Dev nD) : BitVec 1 :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_412 : BitVec 32 := 4#32
  let v630 : BitVec 32 := Scalar.muli v597 c4_i32_412
  let c2_i32_413 : BitVec 32 := 2#32
  let v631 : BitVec 32 := Scalar.addi v630 c2_i32_413
  let v632 : BitVec 1 := Scalar.cmpi .eq v631 v2
  let v633 : BitVec 32 := Scalar.extui v632
  let c0_i32_414 : BitVec 32 := 0#32
  let v634 : BitVec 1 := Scalar.cmpi .ne v633 c0_i32_414
  v634

def k0_off53 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond22 (d0 : Dev nD) : BitVec 1 :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_412 : BitVec 32 := 4#32
  let v630 : BitVec 32 := Scalar.muli v597 c4_i32_412
  let c2_i32_413 : BitVec 32 := 2#32
  let v631 : BitVec 32 := Scalar.addi v630 c2_i32_413
  let v640 : BitVec 1 := Scalar.cmpi .ne v631 v2
  let v641 : BitVec 32 := Scalar.extui v640
  let c0_i32_417 : BitVec 32 := 0#32
  let v642 : BitVec 1 := Scalar.cmpi .ne v641 c0_i32_417
  v642

def k0_off54 (d0 : Dev nD) : Fin 1 → Nat :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_412 : BitVec 32 := 4#32
  let v630 : BitVec 32 := Scalar.muli v597 c4_i32_412
  let c2_i32_413 : BitVec 32 := 2#32
  let v631 : BitVec 32 := Scalar.addi v630 c2_i32_413
  ![v631.toNat]
def k0_off55 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off56 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off57 (d0 : Dev nD) : Fin 3 → Nat :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_412 : BitVec 32 := 4#32
  let v630 : BitVec 32 := Scalar.muli v597 c4_i32_412
  let c2_i32_413 : BitVec 32 := 2#32
  let v631 : BitVec 32 := Scalar.addi v630 c2_i32_413
  let c0_i32_1191 : BitVec 32 := 0#32
  let c0_i32_1192 : BitVec 32 := 0#32
  ![v631.toNat, 0, 0]
def k0_dev42 (d0 : Dev nD) : Nat :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_412 : BitVec 32 := 4#32
  let v630 : BitVec 32 := Scalar.muli v597 c4_i32_412
  let c2_i32_413 : BitVec 32 := 2#32
  let v631 : BitVec 32 := Scalar.addi v630 c2_i32_413
  v631.toNat
def k0_cond23 (d0 : Dev nD) : BitVec 1 :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_418 : BitVec 32 := 4#32
  let v643 : BitVec 32 := Scalar.muli v597 c4_i32_418
  let c3_i32_419 : BitVec 32 := 3#32
  let v644 : BitVec 32 := Scalar.addi v643 c3_i32_419
  let v645 : BitVec 1 := Scalar.cmpi .eq v644 v2
  let v646 : BitVec 32 := Scalar.extui v645
  let c0_i32_420 : BitVec 32 := 0#32
  let v647 : BitVec 1 := Scalar.cmpi .ne v646 c0_i32_420
  v647

def k0_off58 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond24 (d0 : Dev nD) : BitVec 1 :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_418 : BitVec 32 := 4#32
  let v643 : BitVec 32 := Scalar.muli v597 c4_i32_418
  let c3_i32_419 : BitVec 32 := 3#32
  let v644 : BitVec 32 := Scalar.addi v643 c3_i32_419
  let v653 : BitVec 1 := Scalar.cmpi .ne v644 v2
  let v654 : BitVec 32 := Scalar.extui v653
  let c0_i32_423 : BitVec 32 := 0#32
  let v655 : BitVec 1 := Scalar.cmpi .ne v654 c0_i32_423
  v655

def k0_off59 (d0 : Dev nD) : Fin 1 → Nat :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_418 : BitVec 32 := 4#32
  let v643 : BitVec 32 := Scalar.muli v597 c4_i32_418
  let c3_i32_419 : BitVec 32 := 3#32
  let v644 : BitVec 32 := Scalar.addi v643 c3_i32_419
  ![v644.toNat]
def k0_off60 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off61 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off62 (d0 : Dev nD) : Fin 3 → Nat :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_418 : BitVec 32 := 4#32
  let v643 : BitVec 32 := Scalar.muli v597 c4_i32_418
  let c3_i32_419 : BitVec 32 := 3#32
  let v644 : BitVec 32 := Scalar.addi v643 c3_i32_419
  let c0_i32_1191 : BitVec 32 := 0#32
  let c0_i32_1192 : BitVec 32 := 0#32
  ![v644.toNat, 0, 0]
def k0_dev43 (d0 : Dev nD) : Nat :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_418 : BitVec 32 := 4#32
  let v643 : BitVec 32 := Scalar.muli v597 c4_i32_418
  let c3_i32_419 : BitVec 32 := 3#32
  let v644 : BitVec 32 := Scalar.addi v643 c3_i32_419
  v644.toNat
def k0_cond25 (d0 : Dev nD) : BitVec 1 :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_443 : BitVec 32 := 4#32
  let v677 : BitVec 32 := Scalar.muli v670 c4_i32_443
  let c0_i32_444 : BitVec 32 := 0#32
  let v678 : BitVec 32 := Scalar.addi v677 c0_i32_444
  let v679 : BitVec 1 := Scalar.cmpi .eq v678 v2
  let v680 : BitVec 32 := Scalar.extui v679
  let c0_i32_445 : BitVec 32 := 0#32
  let v681 : BitVec 1 := Scalar.cmpi .ne v680 c0_i32_445
  v681

def k0_off63 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond26 (d0 : Dev nD) : BitVec 1 :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_443 : BitVec 32 := 4#32
  let v677 : BitVec 32 := Scalar.muli v670 c4_i32_443
  let c0_i32_444 : BitVec 32 := 0#32
  let v678 : BitVec 32 := Scalar.addi v677 c0_i32_444
  let v687 : BitVec 1 := Scalar.cmpi .ne v678 v2
  let v688 : BitVec 32 := Scalar.extui v687
  let c0_i32_448 : BitVec 32 := 0#32
  let v689 : BitVec 1 := Scalar.cmpi .ne v688 c0_i32_448
  v689

def k0_off64 (d0 : Dev nD) : Fin 1 → Nat :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_443 : BitVec 32 := 4#32
  let v677 : BitVec 32 := Scalar.muli v670 c4_i32_443
  let c0_i32_444 : BitVec 32 := 0#32
  let v678 : BitVec 32 := Scalar.addi v677 c0_i32_444
  ![v678.toNat]
def k0_off65 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off66 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off67 (d0 : Dev nD) : Fin 3 → Nat :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_443 : BitVec 32 := 4#32
  let v677 : BitVec 32 := Scalar.muli v670 c4_i32_443
  let c0_i32_444 : BitVec 32 := 0#32
  let v678 : BitVec 32 := Scalar.addi v677 c0_i32_444
  let c0_i32_1191 : BitVec 32 := 0#32
  let c0_i32_1192 : BitVec 32 := 0#32
  ![v678.toNat, 0, 0]
def k0_dev44 (d0 : Dev nD) : Nat :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_443 : BitVec 32 := 4#32
  let v677 : BitVec 32 := Scalar.muli v670 c4_i32_443
  let c0_i32_444 : BitVec 32 := 0#32
  let v678 : BitVec 32 := Scalar.addi v677 c0_i32_444
  v678.toNat
def k0_cond27 (d0 : Dev nD) : BitVec 1 :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_449 : BitVec 32 := 4#32
  let v690 : BitVec 32 := Scalar.muli v670 c4_i32_449
  let c1_i32_450 : BitVec 32 := 1#32
  let v691 : BitVec 32 := Scalar.addi v690 c1_i32_450
  let v692 : BitVec 1 := Scalar.cmpi .eq v691 v2
  let v693 : BitVec 32 := Scalar.extui v692
  let c0_i32_451 : BitVec 32 := 0#32
  let v694 : BitVec 1 := Scalar.cmpi .ne v693 c0_i32_451
  v694

def k0_off68 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond28 (d0 : Dev nD) : BitVec 1 :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_449 : BitVec 32 := 4#32
  let v690 : BitVec 32 := Scalar.muli v670 c4_i32_449
  let c1_i32_450 : BitVec 32 := 1#32
  let v691 : BitVec 32 := Scalar.addi v690 c1_i32_450
  let v700 : BitVec 1 := Scalar.cmpi .ne v691 v2
  let v701 : BitVec 32 := Scalar.extui v700
  let c0_i32_454 : BitVec 32 := 0#32
  let v702 : BitVec 1 := Scalar.cmpi .ne v701 c0_i32_454
  v702

def k0_off69 (d0 : Dev nD) : Fin 1 → Nat :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_449 : BitVec 32 := 4#32
  let v690 : BitVec 32 := Scalar.muli v670 c4_i32_449
  let c1_i32_450 : BitVec 32 := 1#32
  let v691 : BitVec 32 := Scalar.addi v690 c1_i32_450
  ![v691.toNat]
def k0_off70 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off71 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off72 (d0 : Dev nD) : Fin 3 → Nat :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_449 : BitVec 32 := 4#32
  let v690 : BitVec 32 := Scalar.muli v670 c4_i32_449
  let c1_i32_450 : BitVec 32 := 1#32
  let v691 : BitVec 32 := Scalar.addi v690 c1_i32_450
  let c0_i32_1191 : BitVec 32 := 0#32
  let c0_i32_1192 : BitVec 32 := 0#32
  ![v691.toNat, 0, 0]
def k0_dev45 (d0 : Dev nD) : Nat :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_449 : BitVec 32 := 4#32
  let v690 : BitVec 32 := Scalar.muli v670 c4_i32_449
  let c1_i32_450 : BitVec 32 := 1#32
  let v691 : BitVec 32 := Scalar.addi v690 c1_i32_450
  v691.toNat
def k0_cond29 (d0 : Dev nD) : BitVec 1 :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_455 : BitVec 32 := 4#32
  let v703 : BitVec 32 := Scalar.muli v670 c4_i32_455
  let c2_i32_456 : BitVec 32 := 2#32
  let v704 : BitVec 32 := Scalar.addi v703 c2_i32_456
  let v705 : BitVec 1 := Scalar.cmpi .eq v704 v2
  let v706 : BitVec 32 := Scalar.extui v705
  let c0_i32_457 : BitVec 32 := 0#32
  let v707 : BitVec 1 := Scalar.cmpi .ne v706 c0_i32_457
  v707

def k0_off73 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond30 (d0 : Dev nD) : BitVec 1 :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_455 : BitVec 32 := 4#32
  let v703 : BitVec 32 := Scalar.muli v670 c4_i32_455
  let c2_i32_456 : BitVec 32 := 2#32
  let v704 : BitVec 32 := Scalar.addi v703 c2_i32_456
  let v713 : BitVec 1 := Scalar.cmpi .ne v704 v2
  let v714 : BitVec 32 := Scalar.extui v713
  let c0_i32_460 : BitVec 32 := 0#32
  let v715 : BitVec 1 := Scalar.cmpi .ne v714 c0_i32_460
  v715

def k0_off74 (d0 : Dev nD) : Fin 1 → Nat :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_455 : BitVec 32 := 4#32
  let v703 : BitVec 32 := Scalar.muli v670 c4_i32_455
  let c2_i32_456 : BitVec 32 := 2#32
  let v704 : BitVec 32 := Scalar.addi v703 c2_i32_456
  ![v704.toNat]
def k0_off75 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off76 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off77 (d0 : Dev nD) : Fin 3 → Nat :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_455 : BitVec 32 := 4#32
  let v703 : BitVec 32 := Scalar.muli v670 c4_i32_455
  let c2_i32_456 : BitVec 32 := 2#32
  let v704 : BitVec 32 := Scalar.addi v703 c2_i32_456
  let c0_i32_1191 : BitVec 32 := 0#32
  let c0_i32_1192 : BitVec 32 := 0#32
  ![v704.toNat, 0, 0]
def k0_dev46 (d0 : Dev nD) : Nat :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_455 : BitVec 32 := 4#32
  let v703 : BitVec 32 := Scalar.muli v670 c4_i32_455
  let c2_i32_456 : BitVec 32 := 2#32
  let v704 : BitVec 32 := Scalar.addi v703 c2_i32_456
  v704.toNat
def k0_cond31 (d0 : Dev nD) : BitVec 1 :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_461 : BitVec 32 := 4#32
  let v716 : BitVec 32 := Scalar.muli v670 c4_i32_461
  let c3_i32_462 : BitVec 32 := 3#32
  let v717 : BitVec 32 := Scalar.addi v716 c3_i32_462
  let v718 : BitVec 1 := Scalar.cmpi .eq v717 v2
  let v719 : BitVec 32 := Scalar.extui v718
  let c0_i32_463 : BitVec 32 := 0#32
  let v720 : BitVec 1 := Scalar.cmpi .ne v719 c0_i32_463
  v720

def k0_off78 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond32 (d0 : Dev nD) : BitVec 1 :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_461 : BitVec 32 := 4#32
  let v716 : BitVec 32 := Scalar.muli v670 c4_i32_461
  let c3_i32_462 : BitVec 32 := 3#32
  let v717 : BitVec 32 := Scalar.addi v716 c3_i32_462
  let v726 : BitVec 1 := Scalar.cmpi .ne v717 v2
  let v727 : BitVec 32 := Scalar.extui v726
  let c0_i32_466 : BitVec 32 := 0#32
  let v728 : BitVec 1 := Scalar.cmpi .ne v727 c0_i32_466
  v728

def k0_off79 (d0 : Dev nD) : Fin 1 → Nat :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_461 : BitVec 32 := 4#32
  let v716 : BitVec 32 := Scalar.muli v670 c4_i32_461
  let c3_i32_462 : BitVec 32 := 3#32
  let v717 : BitVec 32 := Scalar.addi v716 c3_i32_462
  ![v717.toNat]
def k0_off80 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off81 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off82 (d0 : Dev nD) : Fin 3 → Nat :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_461 : BitVec 32 := 4#32
  let v716 : BitVec 32 := Scalar.muli v670 c4_i32_461
  let c3_i32_462 : BitVec 32 := 3#32
  let v717 : BitVec 32 := Scalar.addi v716 c3_i32_462
  let c0_i32_1191 : BitVec 32 := 0#32
  let c0_i32_1192 : BitVec 32 := 0#32
  ![v717.toNat, 0, 0]
def k0_dev47 (d0 : Dev nD) : Nat :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_461 : BitVec 32 := 4#32
  let v716 : BitVec 32 := Scalar.muli v670 c4_i32_461
  let c3_i32_462 : BitVec 32 := 3#32
  let v717 : BitVec 32 := Scalar.addi v716 c3_i32_462
  v717.toNat
def k0_cond33 (d0 : Dev nD) : BitVec 1 :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_486 : BitVec 32 := 4#32
  let v750 : BitVec 32 := Scalar.muli v743 c4_i32_486
  let c0_i32_487 : BitVec 32 := 0#32
  let v751 : BitVec 32 := Scalar.addi v750 c0_i32_487
  let v752 : BitVec 1 := Scalar.cmpi .eq v751 v2
  let v753 : BitVec 32 := Scalar.extui v752
  let c0_i32_488 : BitVec 32 := 0#32
  let v754 : BitVec 1 := Scalar.cmpi .ne v753 c0_i32_488
  v754

def k0_off83 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond34 (d0 : Dev nD) : BitVec 1 :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_486 : BitVec 32 := 4#32
  let v750 : BitVec 32 := Scalar.muli v743 c4_i32_486
  let c0_i32_487 : BitVec 32 := 0#32
  let v751 : BitVec 32 := Scalar.addi v750 c0_i32_487
  let v760 : BitVec 1 := Scalar.cmpi .ne v751 v2
  let v761 : BitVec 32 := Scalar.extui v760
  let c0_i32_491 : BitVec 32 := 0#32
  let v762 : BitVec 1 := Scalar.cmpi .ne v761 c0_i32_491
  v762

def k0_off84 (d0 : Dev nD) : Fin 1 → Nat :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_486 : BitVec 32 := 4#32
  let v750 : BitVec 32 := Scalar.muli v743 c4_i32_486
  let c0_i32_487 : BitVec 32 := 0#32
  let v751 : BitVec 32 := Scalar.addi v750 c0_i32_487
  ![v751.toNat]
def k0_off85 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off86 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off87 (d0 : Dev nD) : Fin 3 → Nat :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_486 : BitVec 32 := 4#32
  let v750 : BitVec 32 := Scalar.muli v743 c4_i32_486
  let c0_i32_487 : BitVec 32 := 0#32
  let v751 : BitVec 32 := Scalar.addi v750 c0_i32_487
  let c0_i32_1191 : BitVec 32 := 0#32
  let c0_i32_1192 : BitVec 32 := 0#32
  ![v751.toNat, 0, 0]
def k0_dev48 (d0 : Dev nD) : Nat :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_486 : BitVec 32 := 4#32
  let v750 : BitVec 32 := Scalar.muli v743 c4_i32_486
  let c0_i32_487 : BitVec 32 := 0#32
  let v751 : BitVec 32 := Scalar.addi v750 c0_i32_487
  v751.toNat
def k0_cond35 (d0 : Dev nD) : BitVec 1 :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_492 : BitVec 32 := 4#32
  let v763 : BitVec 32 := Scalar.muli v743 c4_i32_492
  let c1_i32_493 : BitVec 32 := 1#32
  let v764 : BitVec 32 := Scalar.addi v763 c1_i32_493
  let v765 : BitVec 1 := Scalar.cmpi .eq v764 v2
  let v766 : BitVec 32 := Scalar.extui v765
  let c0_i32_494 : BitVec 32 := 0#32
  let v767 : BitVec 1 := Scalar.cmpi .ne v766 c0_i32_494
  v767

def k0_off88 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond36 (d0 : Dev nD) : BitVec 1 :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_492 : BitVec 32 := 4#32
  let v763 : BitVec 32 := Scalar.muli v743 c4_i32_492
  let c1_i32_493 : BitVec 32 := 1#32
  let v764 : BitVec 32 := Scalar.addi v763 c1_i32_493
  let v773 : BitVec 1 := Scalar.cmpi .ne v764 v2
  let v774 : BitVec 32 := Scalar.extui v773
  let c0_i32_497 : BitVec 32 := 0#32
  let v775 : BitVec 1 := Scalar.cmpi .ne v774 c0_i32_497
  v775

def k0_off89 (d0 : Dev nD) : Fin 1 → Nat :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_492 : BitVec 32 := 4#32
  let v763 : BitVec 32 := Scalar.muli v743 c4_i32_492
  let c1_i32_493 : BitVec 32 := 1#32
  let v764 : BitVec 32 := Scalar.addi v763 c1_i32_493
  ![v764.toNat]
def k0_off90 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off91 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off92 (d0 : Dev nD) : Fin 3 → Nat :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_492 : BitVec 32 := 4#32
  let v763 : BitVec 32 := Scalar.muli v743 c4_i32_492
  let c1_i32_493 : BitVec 32 := 1#32
  let v764 : BitVec 32 := Scalar.addi v763 c1_i32_493
  let c0_i32_1191 : BitVec 32 := 0#32
  let c0_i32_1192 : BitVec 32 := 0#32
  ![v764.toNat, 0, 0]
def k0_dev49 (d0 : Dev nD) : Nat :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_492 : BitVec 32 := 4#32
  let v763 : BitVec 32 := Scalar.muli v743 c4_i32_492
  let c1_i32_493 : BitVec 32 := 1#32
  let v764 : BitVec 32 := Scalar.addi v763 c1_i32_493
  v764.toNat
def k0_cond37 (d0 : Dev nD) : BitVec 1 :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_498 : BitVec 32 := 4#32
  let v776 : BitVec 32 := Scalar.muli v743 c4_i32_498
  let c2_i32_499 : BitVec 32 := 2#32
  let v777 : BitVec 32 := Scalar.addi v776 c2_i32_499
  let v778 : BitVec 1 := Scalar.cmpi .eq v777 v2
  let v779 : BitVec 32 := Scalar.extui v778
  let c0_i32_500 : BitVec 32 := 0#32
  let v780 : BitVec 1 := Scalar.cmpi .ne v779 c0_i32_500
  v780

def k0_off93 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond38 (d0 : Dev nD) : BitVec 1 :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_498 : BitVec 32 := 4#32
  let v776 : BitVec 32 := Scalar.muli v743 c4_i32_498
  let c2_i32_499 : BitVec 32 := 2#32
  let v777 : BitVec 32 := Scalar.addi v776 c2_i32_499
  let v786 : BitVec 1 := Scalar.cmpi .ne v777 v2
  let v787 : BitVec 32 := Scalar.extui v786
  let c0_i32_503 : BitVec 32 := 0#32
  let v788 : BitVec 1 := Scalar.cmpi .ne v787 c0_i32_503
  v788

def k0_off94 (d0 : Dev nD) : Fin 1 → Nat :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_498 : BitVec 32 := 4#32
  let v776 : BitVec 32 := Scalar.muli v743 c4_i32_498
  let c2_i32_499 : BitVec 32 := 2#32
  let v777 : BitVec 32 := Scalar.addi v776 c2_i32_499
  ![v777.toNat]
def k0_off95 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off96 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off97 (d0 : Dev nD) : Fin 3 → Nat :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_498 : BitVec 32 := 4#32
  let v776 : BitVec 32 := Scalar.muli v743 c4_i32_498
  let c2_i32_499 : BitVec 32 := 2#32
  let v777 : BitVec 32 := Scalar.addi v776 c2_i32_499
  let c0_i32_1191 : BitVec 32 := 0#32
  let c0_i32_1192 : BitVec 32 := 0#32
  ![v777.toNat, 0, 0]
def k0_dev50 (d0 : Dev nD) : Nat :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_498 : BitVec 32 := 4#32
  let v776 : BitVec 32 := Scalar.muli v743 c4_i32_498
  let c2_i32_499 : BitVec 32 := 2#32
  let v777 : BitVec 32 := Scalar.addi v776 c2_i32_499
  v777.toNat
def k0_cond39 (d0 : Dev nD) : BitVec 1 :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_504 : BitVec 32 := 4#32
  let v789 : BitVec 32 := Scalar.muli v743 c4_i32_504
  let c3_i32_505 : BitVec 32 := 3#32
  let v790 : BitVec 32 := Scalar.addi v789 c3_i32_505
  let v791 : BitVec 1 := Scalar.cmpi .eq v790 v2
  let v792 : BitVec 32 := Scalar.extui v791
  let c0_i32_506 : BitVec 32 := 0#32
  let v793 : BitVec 1 := Scalar.cmpi .ne v792 c0_i32_506
  v793

def k0_off98 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond40 (d0 : Dev nD) : BitVec 1 :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_504 : BitVec 32 := 4#32
  let v789 : BitVec 32 := Scalar.muli v743 c4_i32_504
  let c3_i32_505 : BitVec 32 := 3#32
  let v790 : BitVec 32 := Scalar.addi v789 c3_i32_505
  let v799 : BitVec 1 := Scalar.cmpi .ne v790 v2
  let v800 : BitVec 32 := Scalar.extui v799
  let c0_i32_509 : BitVec 32 := 0#32
  let v801 : BitVec 1 := Scalar.cmpi .ne v800 c0_i32_509
  v801

def k0_off99 (d0 : Dev nD) : Fin 1 → Nat :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_504 : BitVec 32 := 4#32
  let v789 : BitVec 32 := Scalar.muli v743 c4_i32_504
  let c3_i32_505 : BitVec 32 := 3#32
  let v790 : BitVec 32 := Scalar.addi v789 c3_i32_505
  ![v790.toNat]
def k0_off100 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off101 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off102 (d0 : Dev nD) : Fin 3 → Nat :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_504 : BitVec 32 := 4#32
  let v789 : BitVec 32 := Scalar.muli v743 c4_i32_504
  let c3_i32_505 : BitVec 32 := 3#32
  let v790 : BitVec 32 := Scalar.addi v789 c3_i32_505
  let c0_i32_1191 : BitVec 32 := 0#32
  let c0_i32_1192 : BitVec 32 := 0#32
  ![v790.toNat, 0, 0]
def k0_dev51 (d0 : Dev nD) : Nat :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_504 : BitVec 32 := 4#32
  let v789 : BitVec 32 := Scalar.muli v743 c4_i32_504
  let c3_i32_505 : BitVec 32 := 3#32
  let v790 : BitVec 32 := Scalar.addi v789 c3_i32_505
  v790.toNat
def k0_cond41 (d0 : Dev nD) : BitVec 1 :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_529 : BitVec 32 := 4#32
  let v823 : BitVec 32 := Scalar.muli v816 c4_i32_529
  let c0_i32_530 : BitVec 32 := 0#32
  let v824 : BitVec 32 := Scalar.addi v823 c0_i32_530
  let v825 : BitVec 1 := Scalar.cmpi .eq v824 v2
  let v826 : BitVec 32 := Scalar.extui v825
  let c0_i32_531 : BitVec 32 := 0#32
  let v827 : BitVec 1 := Scalar.cmpi .ne v826 c0_i32_531
  v827

def k0_off103 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond42 (d0 : Dev nD) : BitVec 1 :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_529 : BitVec 32 := 4#32
  let v823 : BitVec 32 := Scalar.muli v816 c4_i32_529
  let c0_i32_530 : BitVec 32 := 0#32
  let v824 : BitVec 32 := Scalar.addi v823 c0_i32_530
  let v833 : BitVec 1 := Scalar.cmpi .ne v824 v2
  let v834 : BitVec 32 := Scalar.extui v833
  let c0_i32_534 : BitVec 32 := 0#32
  let v835 : BitVec 1 := Scalar.cmpi .ne v834 c0_i32_534
  v835

def k0_off104 (d0 : Dev nD) : Fin 1 → Nat :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_529 : BitVec 32 := 4#32
  let v823 : BitVec 32 := Scalar.muli v816 c4_i32_529
  let c0_i32_530 : BitVec 32 := 0#32
  let v824 : BitVec 32 := Scalar.addi v823 c0_i32_530
  ![v824.toNat]
def k0_off105 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off106 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off107 (d0 : Dev nD) : Fin 3 → Nat :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_529 : BitVec 32 := 4#32
  let v823 : BitVec 32 := Scalar.muli v816 c4_i32_529
  let c0_i32_530 : BitVec 32 := 0#32
  let v824 : BitVec 32 := Scalar.addi v823 c0_i32_530
  let c0_i32_1191 : BitVec 32 := 0#32
  let c0_i32_1192 : BitVec 32 := 0#32
  ![v824.toNat, 0, 0]
def k0_dev52 (d0 : Dev nD) : Nat :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_529 : BitVec 32 := 4#32
  let v823 : BitVec 32 := Scalar.muli v816 c4_i32_529
  let c0_i32_530 : BitVec 32 := 0#32
  let v824 : BitVec 32 := Scalar.addi v823 c0_i32_530
  v824.toNat
def k0_cond43 (d0 : Dev nD) : BitVec 1 :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_535 : BitVec 32 := 4#32
  let v836 : BitVec 32 := Scalar.muli v816 c4_i32_535
  let c1_i32_536 : BitVec 32 := 1#32
  let v837 : BitVec 32 := Scalar.addi v836 c1_i32_536
  let v838 : BitVec 1 := Scalar.cmpi .eq v837 v2
  let v839 : BitVec 32 := Scalar.extui v838
  let c0_i32_537 : BitVec 32 := 0#32
  let v840 : BitVec 1 := Scalar.cmpi .ne v839 c0_i32_537
  v840

def k0_off108 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond44 (d0 : Dev nD) : BitVec 1 :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_535 : BitVec 32 := 4#32
  let v836 : BitVec 32 := Scalar.muli v816 c4_i32_535
  let c1_i32_536 : BitVec 32 := 1#32
  let v837 : BitVec 32 := Scalar.addi v836 c1_i32_536
  let v846 : BitVec 1 := Scalar.cmpi .ne v837 v2
  let v847 : BitVec 32 := Scalar.extui v846
  let c0_i32_540 : BitVec 32 := 0#32
  let v848 : BitVec 1 := Scalar.cmpi .ne v847 c0_i32_540
  v848

def k0_off109 (d0 : Dev nD) : Fin 1 → Nat :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_535 : BitVec 32 := 4#32
  let v836 : BitVec 32 := Scalar.muli v816 c4_i32_535
  let c1_i32_536 : BitVec 32 := 1#32
  let v837 : BitVec 32 := Scalar.addi v836 c1_i32_536
  ![v837.toNat]
def k0_off110 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off111 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off112 (d0 : Dev nD) : Fin 3 → Nat :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_535 : BitVec 32 := 4#32
  let v836 : BitVec 32 := Scalar.muli v816 c4_i32_535
  let c1_i32_536 : BitVec 32 := 1#32
  let v837 : BitVec 32 := Scalar.addi v836 c1_i32_536
  let c0_i32_1191 : BitVec 32 := 0#32
  let c0_i32_1192 : BitVec 32 := 0#32
  ![v837.toNat, 0, 0]
def k0_dev53 (d0 : Dev nD) : Nat :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_535 : BitVec 32 := 4#32
  let v836 : BitVec 32 := Scalar.muli v816 c4_i32_535
  let c1_i32_536 : BitVec 32 := 1#32
  let v837 : BitVec 32 := Scalar.addi v836 c1_i32_536
  v837.toNat
def k0_cond45 (d0 : Dev nD) : BitVec 1 :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_541 : BitVec 32 := 4#32
  let v849 : BitVec 32 := Scalar.muli v816 c4_i32_541
  let c2_i32_542 : BitVec 32 := 2#32
  let v850 : BitVec 32 := Scalar.addi v849 c2_i32_542
  let v851 : BitVec 1 := Scalar.cmpi .eq v850 v2
  let v852 : BitVec 32 := Scalar.extui v851
  let c0_i32_543 : BitVec 32 := 0#32
  let v853 : BitVec 1 := Scalar.cmpi .ne v852 c0_i32_543
  v853

def k0_off113 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond46 (d0 : Dev nD) : BitVec 1 :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_541 : BitVec 32 := 4#32
  let v849 : BitVec 32 := Scalar.muli v816 c4_i32_541
  let c2_i32_542 : BitVec 32 := 2#32
  let v850 : BitVec 32 := Scalar.addi v849 c2_i32_542
  let v859 : BitVec 1 := Scalar.cmpi .ne v850 v2
  let v860 : BitVec 32 := Scalar.extui v859
  let c0_i32_546 : BitVec 32 := 0#32
  let v861 : BitVec 1 := Scalar.cmpi .ne v860 c0_i32_546
  v861

def k0_off114 (d0 : Dev nD) : Fin 1 → Nat :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_541 : BitVec 32 := 4#32
  let v849 : BitVec 32 := Scalar.muli v816 c4_i32_541
  let c2_i32_542 : BitVec 32 := 2#32
  let v850 : BitVec 32 := Scalar.addi v849 c2_i32_542
  ![v850.toNat]
def k0_off115 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off116 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off117 (d0 : Dev nD) : Fin 3 → Nat :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_541 : BitVec 32 := 4#32
  let v849 : BitVec 32 := Scalar.muli v816 c4_i32_541
  let c2_i32_542 : BitVec 32 := 2#32
  let v850 : BitVec 32 := Scalar.addi v849 c2_i32_542
  let c0_i32_1191 : BitVec 32 := 0#32
  let c0_i32_1192 : BitVec 32 := 0#32
  ![v850.toNat, 0, 0]
def k0_dev54 (d0 : Dev nD) : Nat :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_541 : BitVec 32 := 4#32
  let v849 : BitVec 32 := Scalar.muli v816 c4_i32_541
  let c2_i32_542 : BitVec 32 := 2#32
  let v850 : BitVec 32 := Scalar.addi v849 c2_i32_542
  v850.toNat
def k0_cond47 (d0 : Dev nD) : BitVec 1 :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_547 : BitVec 32 := 4#32
  let v862 : BitVec 32 := Scalar.muli v816 c4_i32_547
  let c3_i32_548 : BitVec 32 := 3#32
  let v863 : BitVec 32 := Scalar.addi v862 c3_i32_548
  let v864 : BitVec 1 := Scalar.cmpi .eq v863 v2
  let v865 : BitVec 32 := Scalar.extui v864
  let c0_i32_549 : BitVec 32 := 0#32
  let v866 : BitVec 1 := Scalar.cmpi .ne v865 c0_i32_549
  v866

def k0_off118 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond48 (d0 : Dev nD) : BitVec 1 :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_547 : BitVec 32 := 4#32
  let v862 : BitVec 32 := Scalar.muli v816 c4_i32_547
  let c3_i32_548 : BitVec 32 := 3#32
  let v863 : BitVec 32 := Scalar.addi v862 c3_i32_548
  let v872 : BitVec 1 := Scalar.cmpi .ne v863 v2
  let v873 : BitVec 32 := Scalar.extui v872
  let c0_i32_552 : BitVec 32 := 0#32
  let v874 : BitVec 1 := Scalar.cmpi .ne v873 c0_i32_552
  v874

def k0_off119 (d0 : Dev nD) : Fin 1 → Nat :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_547 : BitVec 32 := 4#32
  let v862 : BitVec 32 := Scalar.muli v816 c4_i32_547
  let c3_i32_548 : BitVec 32 := 3#32
  let v863 : BitVec 32 := Scalar.addi v862 c3_i32_548
  ![v863.toNat]
def k0_off120 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off121 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off122 (d0 : Dev nD) : Fin 3 → Nat :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_547 : BitVec 32 := 4#32
  let v862 : BitVec 32 := Scalar.muli v816 c4_i32_547
  let c3_i32_548 : BitVec 32 := 3#32
  let v863 : BitVec 32 := Scalar.addi v862 c3_i32_548
  let c0_i32_1191 : BitVec 32 := 0#32
  let c0_i32_1192 : BitVec 32 := 0#32
  ![v863.toNat, 0, 0]
def k0_dev55 (d0 : Dev nD) : Nat :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_547 : BitVec 32 := 4#32
  let v862 : BitVec 32 := Scalar.muli v816 c4_i32_547
  let c3_i32_548 : BitVec 32 := 3#32
  let v863 : BitVec 32 := Scalar.addi v862 c3_i32_548
  v863.toNat
def k0_cond49 (d0 : Dev nD) : BitVec 1 :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_572 : BitVec 32 := 4#32
  let v896 : BitVec 32 := Scalar.muli v889 c4_i32_572
  let c0_i32_573 : BitVec 32 := 0#32
  let v897 : BitVec 32 := Scalar.addi v896 c0_i32_573
  let v898 : BitVec 1 := Scalar.cmpi .eq v897 v2
  let v899 : BitVec 32 := Scalar.extui v898
  let c0_i32_574 : BitVec 32 := 0#32
  let v900 : BitVec 1 := Scalar.cmpi .ne v899 c0_i32_574
  v900

def k0_off123 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond50 (d0 : Dev nD) : BitVec 1 :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_572 : BitVec 32 := 4#32
  let v896 : BitVec 32 := Scalar.muli v889 c4_i32_572
  let c0_i32_573 : BitVec 32 := 0#32
  let v897 : BitVec 32 := Scalar.addi v896 c0_i32_573
  let v906 : BitVec 1 := Scalar.cmpi .ne v897 v2
  let v907 : BitVec 32 := Scalar.extui v906
  let c0_i32_577 : BitVec 32 := 0#32
  let v908 : BitVec 1 := Scalar.cmpi .ne v907 c0_i32_577
  v908

def k0_off124 (d0 : Dev nD) : Fin 1 → Nat :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_572 : BitVec 32 := 4#32
  let v896 : BitVec 32 := Scalar.muli v889 c4_i32_572
  let c0_i32_573 : BitVec 32 := 0#32
  let v897 : BitVec 32 := Scalar.addi v896 c0_i32_573
  ![v897.toNat]
def k0_off125 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off126 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off127 (d0 : Dev nD) : Fin 3 → Nat :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_572 : BitVec 32 := 4#32
  let v896 : BitVec 32 := Scalar.muli v889 c4_i32_572
  let c0_i32_573 : BitVec 32 := 0#32
  let v897 : BitVec 32 := Scalar.addi v896 c0_i32_573
  let c0_i32_1191 : BitVec 32 := 0#32
  let c0_i32_1192 : BitVec 32 := 0#32
  ![v897.toNat, 0, 0]
def k0_dev56 (d0 : Dev nD) : Nat :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_572 : BitVec 32 := 4#32
  let v896 : BitVec 32 := Scalar.muli v889 c4_i32_572
  let c0_i32_573 : BitVec 32 := 0#32
  let v897 : BitVec 32 := Scalar.addi v896 c0_i32_573
  v897.toNat
def k0_cond51 (d0 : Dev nD) : BitVec 1 :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_578 : BitVec 32 := 4#32
  let v909 : BitVec 32 := Scalar.muli v889 c4_i32_578
  let c1_i32_579 : BitVec 32 := 1#32
  let v910 : BitVec 32 := Scalar.addi v909 c1_i32_579
  let v911 : BitVec 1 := Scalar.cmpi .eq v910 v2
  let v912 : BitVec 32 := Scalar.extui v911
  let c0_i32_580 : BitVec 32 := 0#32
  let v913 : BitVec 1 := Scalar.cmpi .ne v912 c0_i32_580
  v913

def k0_off128 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond52 (d0 : Dev nD) : BitVec 1 :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_578 : BitVec 32 := 4#32
  let v909 : BitVec 32 := Scalar.muli v889 c4_i32_578
  let c1_i32_579 : BitVec 32 := 1#32
  let v910 : BitVec 32 := Scalar.addi v909 c1_i32_579
  let v919 : BitVec 1 := Scalar.cmpi .ne v910 v2
  let v920 : BitVec 32 := Scalar.extui v919
  let c0_i32_583 : BitVec 32 := 0#32
  let v921 : BitVec 1 := Scalar.cmpi .ne v920 c0_i32_583
  v921

def k0_off129 (d0 : Dev nD) : Fin 1 → Nat :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_578 : BitVec 32 := 4#32
  let v909 : BitVec 32 := Scalar.muli v889 c4_i32_578
  let c1_i32_579 : BitVec 32 := 1#32
  let v910 : BitVec 32 := Scalar.addi v909 c1_i32_579
  ![v910.toNat]
def k0_off130 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off131 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off132 (d0 : Dev nD) : Fin 3 → Nat :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_578 : BitVec 32 := 4#32
  let v909 : BitVec 32 := Scalar.muli v889 c4_i32_578
  let c1_i32_579 : BitVec 32 := 1#32
  let v910 : BitVec 32 := Scalar.addi v909 c1_i32_579
  let c0_i32_1191 : BitVec 32 := 0#32
  let c0_i32_1192 : BitVec 32 := 0#32
  ![v910.toNat, 0, 0]
def k0_dev57 (d0 : Dev nD) : Nat :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_578 : BitVec 32 := 4#32
  let v909 : BitVec 32 := Scalar.muli v889 c4_i32_578
  let c1_i32_579 : BitVec 32 := 1#32
  let v910 : BitVec 32 := Scalar.addi v909 c1_i32_579
  v910.toNat
def k0_cond53 (d0 : Dev nD) : BitVec 1 :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_584 : BitVec 32 := 4#32
  let v922 : BitVec 32 := Scalar.muli v889 c4_i32_584
  let c2_i32_585 : BitVec 32 := 2#32
  let v923 : BitVec 32 := Scalar.addi v922 c2_i32_585
  let v924 : BitVec 1 := Scalar.cmpi .eq v923 v2
  let v925 : BitVec 32 := Scalar.extui v924
  let c0_i32_586 : BitVec 32 := 0#32
  let v926 : BitVec 1 := Scalar.cmpi .ne v925 c0_i32_586
  v926

def k0_off133 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond54 (d0 : Dev nD) : BitVec 1 :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_584 : BitVec 32 := 4#32
  let v922 : BitVec 32 := Scalar.muli v889 c4_i32_584
  let c2_i32_585 : BitVec 32 := 2#32
  let v923 : BitVec 32 := Scalar.addi v922 c2_i32_585
  let v932 : BitVec 1 := Scalar.cmpi .ne v923 v2
  let v933 : BitVec 32 := Scalar.extui v932
  let c0_i32_589 : BitVec 32 := 0#32
  let v934 : BitVec 1 := Scalar.cmpi .ne v933 c0_i32_589
  v934

def k0_off134 (d0 : Dev nD) : Fin 1 → Nat :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_584 : BitVec 32 := 4#32
  let v922 : BitVec 32 := Scalar.muli v889 c4_i32_584
  let c2_i32_585 : BitVec 32 := 2#32
  let v923 : BitVec 32 := Scalar.addi v922 c2_i32_585
  ![v923.toNat]
def k0_off135 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off136 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off137 (d0 : Dev nD) : Fin 3 → Nat :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_584 : BitVec 32 := 4#32
  let v922 : BitVec 32 := Scalar.muli v889 c4_i32_584
  let c2_i32_585 : BitVec 32 := 2#32
  let v923 : BitVec 32 := Scalar.addi v922 c2_i32_585
  let c0_i32_1191 : BitVec 32 := 0#32
  let c0_i32_1192 : BitVec 32 := 0#32
  ![v923.toNat, 0, 0]
def k0_dev58 (d0 : Dev nD) : Nat :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_584 : BitVec 32 := 4#32
  let v922 : BitVec 32 := Scalar.muli v889 c4_i32_584
  let c2_i32_585 : BitVec 32 := 2#32
  let v923 : BitVec 32 := Scalar.addi v922 c2_i32_585
  v923.toNat
def k0_cond55 (d0 : Dev nD) : BitVec 1 :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_590 : BitVec 32 := 4#32
  let v935 : BitVec 32 := Scalar.muli v889 c4_i32_590
  let c3_i32_591 : BitVec 32 := 3#32
  let v936 : BitVec 32 := Scalar.addi v935 c3_i32_591
  let v937 : BitVec 1 := Scalar.cmpi .eq v936 v2
  let v938 : BitVec 32 := Scalar.extui v937
  let c0_i32_592 : BitVec 32 := 0#32
  let v939 : BitVec 1 := Scalar.cmpi .ne v938 c0_i32_592
  v939

def k0_off138 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond56 (d0 : Dev nD) : BitVec 1 :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_590 : BitVec 32 := 4#32
  let v935 : BitVec 32 := Scalar.muli v889 c4_i32_590
  let c3_i32_591 : BitVec 32 := 3#32
  let v936 : BitVec 32 := Scalar.addi v935 c3_i32_591
  let v945 : BitVec 1 := Scalar.cmpi .ne v936 v2
  let v946 : BitVec 32 := Scalar.extui v945
  let c0_i32_595 : BitVec 32 := 0#32
  let v947 : BitVec 1 := Scalar.cmpi .ne v946 c0_i32_595
  v947

def k0_off139 (d0 : Dev nD) : Fin 1 → Nat :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_590 : BitVec 32 := 4#32
  let v935 : BitVec 32 := Scalar.muli v889 c4_i32_590
  let c3_i32_591 : BitVec 32 := 3#32
  let v936 : BitVec 32 := Scalar.addi v935 c3_i32_591
  ![v936.toNat]
def k0_off140 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off141 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off142 (d0 : Dev nD) : Fin 3 → Nat :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_590 : BitVec 32 := 4#32
  let v935 : BitVec 32 := Scalar.muli v889 c4_i32_590
  let c3_i32_591 : BitVec 32 := 3#32
  let v936 : BitVec 32 := Scalar.addi v935 c3_i32_591
  let c0_i32_1191 : BitVec 32 := 0#32
  let c0_i32_1192 : BitVec 32 := 0#32
  ![v936.toNat, 0, 0]
def k0_dev59 (d0 : Dev nD) : Nat :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_590 : BitVec 32 := 4#32
  let v935 : BitVec 32 := Scalar.muli v889 c4_i32_590
  let c3_i32_591 : BitVec 32 := 3#32
  let v936 : BitVec 32 := Scalar.addi v935 c3_i32_591
  v936.toNat
def k0_cond57 (d0 : Dev nD) : BitVec 1 :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_607 : BitVec 32 := 4#32
  let v961 : BitVec 32 := Scalar.muli v954 c4_i32_607
  let c0_i32_608 : BitVec 32 := 0#32
  let v962 : BitVec 32 := Scalar.addi v961 c0_i32_608
  let v963 : BitVec 1 := Scalar.cmpi .eq v962 v2
  let v964 : BitVec 32 := Scalar.extui v963
  let c0_i32_609 : BitVec 32 := 0#32
  let v965 : BitVec 1 := Scalar.cmpi .ne v964 c0_i32_609
  v965

def k0_off143 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond58 (d0 : Dev nD) : BitVec 1 :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_607 : BitVec 32 := 4#32
  let v961 : BitVec 32 := Scalar.muli v954 c4_i32_607
  let c0_i32_608 : BitVec 32 := 0#32
  let v962 : BitVec 32 := Scalar.addi v961 c0_i32_608
  let v971 : BitVec 1 := Scalar.cmpi .ne v962 v2
  let v972 : BitVec 32 := Scalar.extui v971
  let c0_i32_612 : BitVec 32 := 0#32
  let v973 : BitVec 1 := Scalar.cmpi .ne v972 c0_i32_612
  v973

def k0_off144 (d0 : Dev nD) : Fin 1 → Nat :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_607 : BitVec 32 := 4#32
  let v961 : BitVec 32 := Scalar.muli v954 c4_i32_607
  let c0_i32_608 : BitVec 32 := 0#32
  let v962 : BitVec 32 := Scalar.addi v961 c0_i32_608
  ![v962.toNat]
def k0_off145 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off146 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off147 (d0 : Dev nD) : Fin 3 → Nat :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_607 : BitVec 32 := 4#32
  let v961 : BitVec 32 := Scalar.muli v954 c4_i32_607
  let c0_i32_608 : BitVec 32 := 0#32
  let v962 : BitVec 32 := Scalar.addi v961 c0_i32_608
  let c0_i32_1191 : BitVec 32 := 0#32
  let c0_i32_1192 : BitVec 32 := 0#32
  ![v962.toNat, 0, 0]
def k0_dev60 (d0 : Dev nD) : Nat :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_607 : BitVec 32 := 4#32
  let v961 : BitVec 32 := Scalar.muli v954 c4_i32_607
  let c0_i32_608 : BitVec 32 := 0#32
  let v962 : BitVec 32 := Scalar.addi v961 c0_i32_608
  v962.toNat
def k0_cond59 (d0 : Dev nD) : BitVec 1 :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_613 : BitVec 32 := 4#32
  let v974 : BitVec 32 := Scalar.muli v954 c4_i32_613
  let c1_i32_614 : BitVec 32 := 1#32
  let v975 : BitVec 32 := Scalar.addi v974 c1_i32_614
  let v976 : BitVec 1 := Scalar.cmpi .eq v975 v2
  let v977 : BitVec 32 := Scalar.extui v976
  let c0_i32_615 : BitVec 32 := 0#32
  let v978 : BitVec 1 := Scalar.cmpi .ne v977 c0_i32_615
  v978

def k0_off148 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond60 (d0 : Dev nD) : BitVec 1 :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_613 : BitVec 32 := 4#32
  let v974 : BitVec 32 := Scalar.muli v954 c4_i32_613
  let c1_i32_614 : BitVec 32 := 1#32
  let v975 : BitVec 32 := Scalar.addi v974 c1_i32_614
  let v984 : BitVec 1 := Scalar.cmpi .ne v975 v2
  let v985 : BitVec 32 := Scalar.extui v984
  let c0_i32_618 : BitVec 32 := 0#32
  let v986 : BitVec 1 := Scalar.cmpi .ne v985 c0_i32_618
  v986

def k0_off149 (d0 : Dev nD) : Fin 1 → Nat :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_613 : BitVec 32 := 4#32
  let v974 : BitVec 32 := Scalar.muli v954 c4_i32_613
  let c1_i32_614 : BitVec 32 := 1#32
  let v975 : BitVec 32 := Scalar.addi v974 c1_i32_614
  ![v975.toNat]
def k0_off150 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off151 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off152 (d0 : Dev nD) : Fin 3 → Nat :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_613 : BitVec 32 := 4#32
  let v974 : BitVec 32 := Scalar.muli v954 c4_i32_613
  let c1_i32_614 : BitVec 32 := 1#32
  let v975 : BitVec 32 := Scalar.addi v974 c1_i32_614
  let c0_i32_1191 : BitVec 32 := 0#32
  let c0_i32_1192 : BitVec 32 := 0#32
  ![v975.toNat, 0, 0]
def k0_dev61 (d0 : Dev nD) : Nat :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_613 : BitVec 32 := 4#32
  let v974 : BitVec 32 := Scalar.muli v954 c4_i32_613
  let c1_i32_614 : BitVec 32 := 1#32
  let v975 : BitVec 32 := Scalar.addi v974 c1_i32_614
  v975.toNat
def k0_cond61 (d0 : Dev nD) : BitVec 1 :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_619 : BitVec 32 := 4#32
  let v987 : BitVec 32 := Scalar.muli v954 c4_i32_619
  let c2_i32_620 : BitVec 32 := 2#32
  let v988 : BitVec 32 := Scalar.addi v987 c2_i32_620
  let v989 : BitVec 1 := Scalar.cmpi .eq v988 v2
  let v990 : BitVec 32 := Scalar.extui v989
  let c0_i32_621 : BitVec 32 := 0#32
  let v991 : BitVec 1 := Scalar.cmpi .ne v990 c0_i32_621
  v991

def k0_off153 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond62 (d0 : Dev nD) : BitVec 1 :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_619 : BitVec 32 := 4#32
  let v987 : BitVec 32 := Scalar.muli v954 c4_i32_619
  let c2_i32_620 : BitVec 32 := 2#32
  let v988 : BitVec 32 := Scalar.addi v987 c2_i32_620
  let v997 : BitVec 1 := Scalar.cmpi .ne v988 v2
  let v998 : BitVec 32 := Scalar.extui v997
  let c0_i32_624 : BitVec 32 := 0#32
  let v999 : BitVec 1 := Scalar.cmpi .ne v998 c0_i32_624
  v999

def k0_off154 (d0 : Dev nD) : Fin 1 → Nat :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_619 : BitVec 32 := 4#32
  let v987 : BitVec 32 := Scalar.muli v954 c4_i32_619
  let c2_i32_620 : BitVec 32 := 2#32
  let v988 : BitVec 32 := Scalar.addi v987 c2_i32_620
  ![v988.toNat]
def k0_off155 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off156 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off157 (d0 : Dev nD) : Fin 3 → Nat :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_619 : BitVec 32 := 4#32
  let v987 : BitVec 32 := Scalar.muli v954 c4_i32_619
  let c2_i32_620 : BitVec 32 := 2#32
  let v988 : BitVec 32 := Scalar.addi v987 c2_i32_620
  let c0_i32_1191 : BitVec 32 := 0#32
  let c0_i32_1192 : BitVec 32 := 0#32
  ![v988.toNat, 0, 0]
def k0_dev62 (d0 : Dev nD) : Nat :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_619 : BitVec 32 := 4#32
  let v987 : BitVec 32 := Scalar.muli v954 c4_i32_619
  let c2_i32_620 : BitVec 32 := 2#32
  let v988 : BitVec 32 := Scalar.addi v987 c2_i32_620
  v988.toNat
def k0_cond63 (d0 : Dev nD) : BitVec 1 :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_625 : BitVec 32 := 4#32
  let v1000 : BitVec 32 := Scalar.muli v954 c4_i32_625
  let c3_i32_626 : BitVec 32 := 3#32
  let v1001 : BitVec 32 := Scalar.addi v1000 c3_i32_626
  let v1002 : BitVec 1 := Scalar.cmpi .eq v1001 v2
  let v1003 : BitVec 32 := Scalar.extui v1002
  let c0_i32_627 : BitVec 32 := 0#32
  let v1004 : BitVec 1 := Scalar.cmpi .ne v1003 c0_i32_627
  v1004

def k0_off158 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_1189 : BitVec 32 := 128#32
  let v1854 : BitVec 32 := Scalar.muli v2 c128_i32_1189
  let v1855 : Index := Scalar.indexCast v1854
  let c0_1190 : Index := 0#32
  ![v1855.toNat, 0]
def k0_cond64 (d0 : Dev nD) : BitVec 1 :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_625 : BitVec 32 := 4#32
  let v1000 : BitVec 32 := Scalar.muli v954 c4_i32_625
  let c3_i32_626 : BitVec 32 := 3#32
  let v1001 : BitVec 32 := Scalar.addi v1000 c3_i32_626
  let v1010 : BitVec 1 := Scalar.cmpi .ne v1001 v2
  let v1011 : BitVec 32 := Scalar.extui v1010
  let c0_i32_630 : BitVec 32 := 0#32
  let v1012 : BitVec 1 := Scalar.cmpi .ne v1011 c0_i32_630
  v1012

def k0_off159 (d0 : Dev nD) : Fin 1 → Nat :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_625 : BitVec 32 := 4#32
  let v1000 : BitVec 32 := Scalar.muli v954 c4_i32_625
  let c3_i32_626 : BitVec 32 := 3#32
  let v1001 : BitVec 32 := Scalar.addi v1000 c3_i32_626
  ![v1001.toNat]
def k0_off160 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off161 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1189 : BitVec 32 := 0#32
  let c0_i32_1190 : BitVec 32 := 0#32
  ![v2.toNat, 0, 0]
def k0_off162 (d0 : Dev nD) : Fin 3 → Nat :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_625 : BitVec 32 := 4#32
  let v1000 : BitVec 32 := Scalar.muli v954 c4_i32_625
  let c3_i32_626 : BitVec 32 := 3#32
  let v1001 : BitVec 32 := Scalar.addi v1000 c3_i32_626
  let c0_i32_1191 : BitVec 32 := 0#32
  let c0_i32_1192 : BitVec 32 := 0#32
  ![v1001.toNat, 0, 0]
def k0_dev63 (d0 : Dev nD) : Nat :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_625 : BitVec 32 := 4#32
  let v1000 : BitVec 32 := Scalar.muli v954 c4_i32_625
  let c3_i32_626 : BitVec 32 := 3#32
  let v1001 : BitVec 32 := Scalar.addi v1000 c3_i32_626
  v1001.toNat
def k0_off163 (d0 : Dev nD) (c1_i32_631 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1013 : BitVec 32 := Scalar.subi v2 c1_i32_631
  let c32_i32_632 : BitVec 32 := 32#32
  let c0_i32_633 : BitVec 32 := 0#32
  let v1014 : BitVec 1 := Scalar.cmpi .eq c32_i32_632 c0_i32_633
  let c1_i32_634 : BitVec 32 := 1#32
  let v1015 : BitVec 32 := Scalar.select v1014 c1_i32_634 c32_i32_632
  let v1016 : BitVec 32 := Scalar.remsi v1013 v1015
  let c0_i32_636 : BitVec 32 := 0#32
  let v1018 : BitVec 1 := Scalar.cmpi .slt v1016 c0_i32_636
  let c0_i32_637 : BitVec 32 := 0#32
  let v1019 : BitVec 1 := Scalar.cmpi .slt v1015 c0_i32_637
  let v1020 : BitVec 1 := Scalar.xori v1018 v1019
  let c0_i32_635 : BitVec 32 := 0#32
  let v1017 : BitVec 1 := Scalar.cmpi .ne v1016 c0_i32_635
  let v1021 : BitVec 1 := Scalar.andi v1020 v1017
  let v1022 : BitVec 32 := Scalar.addi v1016 v1015
  let v1023 : BitVec 32 := Scalar.select v1021 v1022 v1016
  ![v1023.toNat]
def k0_off164 (d0 : Dev nD) (c1_i32_631 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1013 : BitVec 32 := Scalar.subi v2 c1_i32_631
  let c32_i32_632 : BitVec 32 := 32#32
  let c0_i32_633 : BitVec 32 := 0#32
  let v1014 : BitVec 1 := Scalar.cmpi .eq c32_i32_632 c0_i32_633
  let c1_i32_634 : BitVec 32 := 1#32
  let v1015 : BitVec 32 := Scalar.select v1014 c1_i32_634 c32_i32_632
  let v1016 : BitVec 32 := Scalar.remsi v1013 v1015
  let c0_i32_636 : BitVec 32 := 0#32
  let v1018 : BitVec 1 := Scalar.cmpi .slt v1016 c0_i32_636
  let c0_i32_637 : BitVec 32 := 0#32
  let v1019 : BitVec 1 := Scalar.cmpi .slt v1015 c0_i32_637
  let v1020 : BitVec 1 := Scalar.xori v1018 v1019
  let c0_i32_635 : BitVec 32 := 0#32
  let v1017 : BitVec 1 := Scalar.cmpi .ne v1016 c0_i32_635
  let v1021 : BitVec 1 := Scalar.andi v1020 v1017
  let v1022 : BitVec 32 := Scalar.addi v1016 v1015
  let v1023 : BitVec 32 := Scalar.select v1021 v1022 v1016
  let c0_i32_640 : BitVec 32 := 0#32
  let c0_i32_641 : BitVec 32 := 0#32
  ![v1023.toNat, 0, 0]
def k0_off165 (d0 : Dev nD) (c1_i32_631 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1013 : BitVec 32 := Scalar.subi v2 c1_i32_631
  let c32_i32_632 : BitVec 32 := 32#32
  let c0_i32_633 : BitVec 32 := 0#32
  let v1014 : BitVec 1 := Scalar.cmpi .eq c32_i32_632 c0_i32_633
  let c1_i32_634 : BitVec 32 := 1#32
  let v1015 : BitVec 32 := Scalar.select v1014 c1_i32_634 c32_i32_632
  let v1016 : BitVec 32 := Scalar.remsi v1013 v1015
  let c0_i32_636 : BitVec 32 := 0#32
  let v1018 : BitVec 1 := Scalar.cmpi .slt v1016 c0_i32_636
  let c0_i32_637 : BitVec 32 := 0#32
  let v1019 : BitVec 1 := Scalar.cmpi .slt v1015 c0_i32_637
  let v1020 : BitVec 1 := Scalar.xori v1018 v1019
  let c0_i32_635 : BitVec 32 := 0#32
  let v1017 : BitVec 1 := Scalar.cmpi .ne v1016 c0_i32_635
  let v1021 : BitVec 1 := Scalar.andi v1020 v1017
  let v1022 : BitVec 32 := Scalar.addi v1016 v1015
  let v1023 : BitVec 32 := Scalar.select v1021 v1022 v1016
  let v1030 : Index := Scalar.indexCast v1023
  let c0_644 : Index := 0#32
  let c0_645 : Index := 0#32
  ![v1030.toNat, 0, 0]
def k0_off166 (d0 : Dev nD) (c1_i32_631 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1013 : BitVec 32 := Scalar.subi v2 c1_i32_631
  let c32_i32_632 : BitVec 32 := 32#32
  let c0_i32_633 : BitVec 32 := 0#32
  let v1014 : BitVec 1 := Scalar.cmpi .eq c32_i32_632 c0_i32_633
  let c1_i32_634 : BitVec 32 := 1#32
  let v1015 : BitVec 32 := Scalar.select v1014 c1_i32_634 c32_i32_632
  let v1016 : BitVec 32 := Scalar.remsi v1013 v1015
  let c0_i32_636 : BitVec 32 := 0#32
  let v1018 : BitVec 1 := Scalar.cmpi .slt v1016 c0_i32_636
  let c0_i32_637 : BitVec 32 := 0#32
  let v1019 : BitVec 1 := Scalar.cmpi .slt v1015 c0_i32_637
  let v1020 : BitVec 1 := Scalar.xori v1018 v1019
  let c0_i32_635 : BitVec 32 := 0#32
  let v1017 : BitVec 1 := Scalar.cmpi .ne v1016 c0_i32_635
  let v1021 : BitVec 1 := Scalar.andi v1020 v1017
  let v1022 : BitVec 32 := Scalar.addi v1016 v1015
  let v1023 : BitVec 32 := Scalar.select v1021 v1022 v1016
  let c128_i32 : BitVec 32 := 128#32
  let v1034 : BitVec 32 := Scalar.muli v1023 c128_i32
  let v1035 : Index := Scalar.indexCast v1034
  let c0_646 : Index := 0#32
  ![v1035.toNat, 0]
def k0_cond65 (d0 : Dev nD) : BitVec 1 :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_315 : BitVec 32 := 4#32
  let v458 : BitVec 32 := Scalar.muli v451 c4_i32_315
  let c0_i32_316 : BitVec 32 := 0#32
  let v459 : BitVec 32 := Scalar.addi v458 c0_i32_316
  let v1757 : BitVec 1 := Scalar.cmpi .ne v459 v2
  let v1758 : BitVec 32 := Scalar.extui v1757
  let c0_i32_1157 : BitVec 32 := 0#32
  let v1759 : BitVec 1 := Scalar.cmpi .ne v1758 c0_i32_1157
  v1759

def k0_off167 (d0 : Dev nD) : Fin 1 → Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_315 : BitVec 32 := 4#32
  let v458 : BitVec 32 := Scalar.muli v451 c4_i32_315
  let c0_i32_316 : BitVec 32 := 0#32
  let v459 : BitVec 32 := Scalar.addi v458 c0_i32_316
  ![v459.toNat]
def k0_off168 (d0 : Dev nD) : Fin 3 → Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_315 : BitVec 32 := 4#32
  let v458 : BitVec 32 := Scalar.muli v451 c4_i32_315
  let c0_i32_316 : BitVec 32 := 0#32
  let v459 : BitVec 32 := Scalar.addi v458 c0_i32_316
  let c0_i32_1190 : BitVec 32 := 0#32
  let c0_i32_1191 : BitVec 32 := 0#32
  ![v459.toNat, 0, 0]
def k0_off169 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond66 (d0 : Dev nD) : BitVec 1 :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_321 : BitVec 32 := 4#32
  let v471 : BitVec 32 := Scalar.muli v451 c4_i32_321
  let c1_i32_322 : BitVec 32 := 1#32
  let v472 : BitVec 32 := Scalar.addi v471 c1_i32_322
  let v1760 : BitVec 1 := Scalar.cmpi .ne v472 v2
  let v1761 : BitVec 32 := Scalar.extui v1760
  let c0_i32_1158 : BitVec 32 := 0#32
  let v1762 : BitVec 1 := Scalar.cmpi .ne v1761 c0_i32_1158
  v1762

def k0_off170 (d0 : Dev nD) : Fin 1 → Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_321 : BitVec 32 := 4#32
  let v471 : BitVec 32 := Scalar.muli v451 c4_i32_321
  let c1_i32_322 : BitVec 32 := 1#32
  let v472 : BitVec 32 := Scalar.addi v471 c1_i32_322
  ![v472.toNat]
def k0_off171 (d0 : Dev nD) : Fin 3 → Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_321 : BitVec 32 := 4#32
  let v471 : BitVec 32 := Scalar.muli v451 c4_i32_321
  let c1_i32_322 : BitVec 32 := 1#32
  let v472 : BitVec 32 := Scalar.addi v471 c1_i32_322
  let c0_i32_1190 : BitVec 32 := 0#32
  let c0_i32_1191 : BitVec 32 := 0#32
  ![v472.toNat, 0, 0]
def k0_off172 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond67 (d0 : Dev nD) : BitVec 1 :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_327 : BitVec 32 := 4#32
  let v484 : BitVec 32 := Scalar.muli v451 c4_i32_327
  let c2_i32_328 : BitVec 32 := 2#32
  let v485 : BitVec 32 := Scalar.addi v484 c2_i32_328
  let v1763 : BitVec 1 := Scalar.cmpi .ne v485 v2
  let v1764 : BitVec 32 := Scalar.extui v1763
  let c0_i32_1159 : BitVec 32 := 0#32
  let v1765 : BitVec 1 := Scalar.cmpi .ne v1764 c0_i32_1159
  v1765

def k0_off173 (d0 : Dev nD) : Fin 1 → Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_327 : BitVec 32 := 4#32
  let v484 : BitVec 32 := Scalar.muli v451 c4_i32_327
  let c2_i32_328 : BitVec 32 := 2#32
  let v485 : BitVec 32 := Scalar.addi v484 c2_i32_328
  ![v485.toNat]
def k0_off174 (d0 : Dev nD) : Fin 3 → Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_327 : BitVec 32 := 4#32
  let v484 : BitVec 32 := Scalar.muli v451 c4_i32_327
  let c2_i32_328 : BitVec 32 := 2#32
  let v485 : BitVec 32 := Scalar.addi v484 c2_i32_328
  let c0_i32_1190 : BitVec 32 := 0#32
  let c0_i32_1191 : BitVec 32 := 0#32
  ![v485.toNat, 0, 0]
def k0_off175 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond68 (d0 : Dev nD) : BitVec 1 :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_333 : BitVec 32 := 4#32
  let v497 : BitVec 32 := Scalar.muli v451 c4_i32_333
  let c3_i32_334 : BitVec 32 := 3#32
  let v498 : BitVec 32 := Scalar.addi v497 c3_i32_334
  let v1766 : BitVec 1 := Scalar.cmpi .ne v498 v2
  let v1767 : BitVec 32 := Scalar.extui v1766
  let c0_i32_1160 : BitVec 32 := 0#32
  let v1768 : BitVec 1 := Scalar.cmpi .ne v1767 c0_i32_1160
  v1768

def k0_off176 (d0 : Dev nD) : Fin 1 → Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_333 : BitVec 32 := 4#32
  let v497 : BitVec 32 := Scalar.muli v451 c4_i32_333
  let c3_i32_334 : BitVec 32 := 3#32
  let v498 : BitVec 32 := Scalar.addi v497 c3_i32_334
  ![v498.toNat]
def k0_off177 (d0 : Dev nD) : Fin 3 → Nat :=
  let c0_i32_309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v450 : BitVec 32 := Scalar.addi c0_i32_309 v428
  let c8_i32_310 : BitVec 32 := 8#32
  let v451 : BitVec 32 := Scalar.remsi v450 c8_i32_310
  let c4_i32_333 : BitVec 32 := 4#32
  let v497 : BitVec 32 := Scalar.muli v451 c4_i32_333
  let c3_i32_334 : BitVec 32 := 3#32
  let v498 : BitVec 32 := Scalar.addi v497 c3_i32_334
  let c0_i32_1190 : BitVec 32 := 0#32
  let c0_i32_1191 : BitVec 32 := 0#32
  ![v498.toNat, 0, 0]
def k0_off178 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond69 (d0 : Dev nD) : BitVec 1 :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_357 : BitVec 32 := 4#32
  let v531 : BitVec 32 := Scalar.muli v524 c4_i32_357
  let c0_i32_358 : BitVec 32 := 0#32
  let v532 : BitVec 32 := Scalar.addi v531 c0_i32_358
  let v1769 : BitVec 1 := Scalar.cmpi .ne v532 v2
  let v1770 : BitVec 32 := Scalar.extui v1769
  let c0_i32_1161 : BitVec 32 := 0#32
  let v1771 : BitVec 1 := Scalar.cmpi .ne v1770 c0_i32_1161
  v1771

def k0_off179 (d0 : Dev nD) : Fin 1 → Nat :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_357 : BitVec 32 := 4#32
  let v531 : BitVec 32 := Scalar.muli v524 c4_i32_357
  let c0_i32_358 : BitVec 32 := 0#32
  let v532 : BitVec 32 := Scalar.addi v531 c0_i32_358
  ![v532.toNat]
def k0_off180 (d0 : Dev nD) : Fin 3 → Nat :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_357 : BitVec 32 := 4#32
  let v531 : BitVec 32 := Scalar.muli v524 c4_i32_357
  let c0_i32_358 : BitVec 32 := 0#32
  let v532 : BitVec 32 := Scalar.addi v531 c0_i32_358
  let c0_i32_1190 : BitVec 32 := 0#32
  let c0_i32_1191 : BitVec 32 := 0#32
  ![v532.toNat, 0, 0]
def k0_off181 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond70 (d0 : Dev nD) : BitVec 1 :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_363 : BitVec 32 := 4#32
  let v544 : BitVec 32 := Scalar.muli v524 c4_i32_363
  let c1_i32_364 : BitVec 32 := 1#32
  let v545 : BitVec 32 := Scalar.addi v544 c1_i32_364
  let v1772 : BitVec 1 := Scalar.cmpi .ne v545 v2
  let v1773 : BitVec 32 := Scalar.extui v1772
  let c0_i32_1162 : BitVec 32 := 0#32
  let v1774 : BitVec 1 := Scalar.cmpi .ne v1773 c0_i32_1162
  v1774

def k0_off182 (d0 : Dev nD) : Fin 1 → Nat :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_363 : BitVec 32 := 4#32
  let v544 : BitVec 32 := Scalar.muli v524 c4_i32_363
  let c1_i32_364 : BitVec 32 := 1#32
  let v545 : BitVec 32 := Scalar.addi v544 c1_i32_364
  ![v545.toNat]
def k0_off183 (d0 : Dev nD) : Fin 3 → Nat :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_363 : BitVec 32 := 4#32
  let v544 : BitVec 32 := Scalar.muli v524 c4_i32_363
  let c1_i32_364 : BitVec 32 := 1#32
  let v545 : BitVec 32 := Scalar.addi v544 c1_i32_364
  let c0_i32_1190 : BitVec 32 := 0#32
  let c0_i32_1191 : BitVec 32 := 0#32
  ![v545.toNat, 0, 0]
def k0_off184 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond71 (d0 : Dev nD) : BitVec 1 :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_369 : BitVec 32 := 4#32
  let v557 : BitVec 32 := Scalar.muli v524 c4_i32_369
  let c2_i32_370 : BitVec 32 := 2#32
  let v558 : BitVec 32 := Scalar.addi v557 c2_i32_370
  let v1775 : BitVec 1 := Scalar.cmpi .ne v558 v2
  let v1776 : BitVec 32 := Scalar.extui v1775
  let c0_i32_1163 : BitVec 32 := 0#32
  let v1777 : BitVec 1 := Scalar.cmpi .ne v1776 c0_i32_1163
  v1777

def k0_off185 (d0 : Dev nD) : Fin 1 → Nat :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_369 : BitVec 32 := 4#32
  let v557 : BitVec 32 := Scalar.muli v524 c4_i32_369
  let c2_i32_370 : BitVec 32 := 2#32
  let v558 : BitVec 32 := Scalar.addi v557 c2_i32_370
  ![v558.toNat]
def k0_off186 (d0 : Dev nD) : Fin 3 → Nat :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_369 : BitVec 32 := 4#32
  let v557 : BitVec 32 := Scalar.muli v524 c4_i32_369
  let c2_i32_370 : BitVec 32 := 2#32
  let v558 : BitVec 32 := Scalar.addi v557 c2_i32_370
  let c0_i32_1190 : BitVec 32 := 0#32
  let c0_i32_1191 : BitVec 32 := 0#32
  ![v558.toNat, 0, 0]
def k0_off187 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond72 (d0 : Dev nD) : BitVec 1 :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_375 : BitVec 32 := 4#32
  let v570 : BitVec 32 := Scalar.muli v524 c4_i32_375
  let c3_i32_376 : BitVec 32 := 3#32
  let v571 : BitVec 32 := Scalar.addi v570 c3_i32_376
  let v1778 : BitVec 1 := Scalar.cmpi .ne v571 v2
  let v1779 : BitVec 32 := Scalar.extui v1778
  let c0_i32_1164 : BitVec 32 := 0#32
  let v1780 : BitVec 1 := Scalar.cmpi .ne v1779 c0_i32_1164
  v1780

def k0_off188 (d0 : Dev nD) : Fin 1 → Nat :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_375 : BitVec 32 := 4#32
  let v570 : BitVec 32 := Scalar.muli v524 c4_i32_375
  let c3_i32_376 : BitVec 32 := 3#32
  let v571 : BitVec 32 := Scalar.addi v570 c3_i32_376
  ![v571.toNat]
def k0_off189 (d0 : Dev nD) : Fin 3 → Nat :=
  let c1_i32_352 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v523 : BitVec 32 := Scalar.addi c1_i32_352 v428
  let c8_i32_353 : BitVec 32 := 8#32
  let v524 : BitVec 32 := Scalar.remsi v523 c8_i32_353
  let c4_i32_375 : BitVec 32 := 4#32
  let v570 : BitVec 32 := Scalar.muli v524 c4_i32_375
  let c3_i32_376 : BitVec 32 := 3#32
  let v571 : BitVec 32 := Scalar.addi v570 c3_i32_376
  let c0_i32_1190 : BitVec 32 := 0#32
  let c0_i32_1191 : BitVec 32 := 0#32
  ![v571.toNat, 0, 0]
def k0_off190 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond73 (d0 : Dev nD) : BitVec 1 :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_400 : BitVec 32 := 4#32
  let v604 : BitVec 32 := Scalar.muli v597 c4_i32_400
  let c0_i32_401 : BitVec 32 := 0#32
  let v605 : BitVec 32 := Scalar.addi v604 c0_i32_401
  let v1781 : BitVec 1 := Scalar.cmpi .ne v605 v2
  let v1782 : BitVec 32 := Scalar.extui v1781
  let c0_i32_1165 : BitVec 32 := 0#32
  let v1783 : BitVec 1 := Scalar.cmpi .ne v1782 c0_i32_1165
  v1783

def k0_off191 (d0 : Dev nD) : Fin 1 → Nat :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_400 : BitVec 32 := 4#32
  let v604 : BitVec 32 := Scalar.muli v597 c4_i32_400
  let c0_i32_401 : BitVec 32 := 0#32
  let v605 : BitVec 32 := Scalar.addi v604 c0_i32_401
  ![v605.toNat]
def k0_off192 (d0 : Dev nD) : Fin 3 → Nat :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_400 : BitVec 32 := 4#32
  let v604 : BitVec 32 := Scalar.muli v597 c4_i32_400
  let c0_i32_401 : BitVec 32 := 0#32
  let v605 : BitVec 32 := Scalar.addi v604 c0_i32_401
  let c0_i32_1190 : BitVec 32 := 0#32
  let c0_i32_1191 : BitVec 32 := 0#32
  ![v605.toNat, 0, 0]
def k0_off193 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond74 (d0 : Dev nD) : BitVec 1 :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_406 : BitVec 32 := 4#32
  let v617 : BitVec 32 := Scalar.muli v597 c4_i32_406
  let c1_i32_407 : BitVec 32 := 1#32
  let v618 : BitVec 32 := Scalar.addi v617 c1_i32_407
  let v1784 : BitVec 1 := Scalar.cmpi .ne v618 v2
  let v1785 : BitVec 32 := Scalar.extui v1784
  let c0_i32_1166 : BitVec 32 := 0#32
  let v1786 : BitVec 1 := Scalar.cmpi .ne v1785 c0_i32_1166
  v1786

def k0_off194 (d0 : Dev nD) : Fin 1 → Nat :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_406 : BitVec 32 := 4#32
  let v617 : BitVec 32 := Scalar.muli v597 c4_i32_406
  let c1_i32_407 : BitVec 32 := 1#32
  let v618 : BitVec 32 := Scalar.addi v617 c1_i32_407
  ![v618.toNat]
def k0_off195 (d0 : Dev nD) : Fin 3 → Nat :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_406 : BitVec 32 := 4#32
  let v617 : BitVec 32 := Scalar.muli v597 c4_i32_406
  let c1_i32_407 : BitVec 32 := 1#32
  let v618 : BitVec 32 := Scalar.addi v617 c1_i32_407
  let c0_i32_1190 : BitVec 32 := 0#32
  let c0_i32_1191 : BitVec 32 := 0#32
  ![v618.toNat, 0, 0]
def k0_off196 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond75 (d0 : Dev nD) : BitVec 1 :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_412 : BitVec 32 := 4#32
  let v630 : BitVec 32 := Scalar.muli v597 c4_i32_412
  let c2_i32_413 : BitVec 32 := 2#32
  let v631 : BitVec 32 := Scalar.addi v630 c2_i32_413
  let v1787 : BitVec 1 := Scalar.cmpi .ne v631 v2
  let v1788 : BitVec 32 := Scalar.extui v1787
  let c0_i32_1167 : BitVec 32 := 0#32
  let v1789 : BitVec 1 := Scalar.cmpi .ne v1788 c0_i32_1167
  v1789

def k0_off197 (d0 : Dev nD) : Fin 1 → Nat :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_412 : BitVec 32 := 4#32
  let v630 : BitVec 32 := Scalar.muli v597 c4_i32_412
  let c2_i32_413 : BitVec 32 := 2#32
  let v631 : BitVec 32 := Scalar.addi v630 c2_i32_413
  ![v631.toNat]
def k0_off198 (d0 : Dev nD) : Fin 3 → Nat :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_412 : BitVec 32 := 4#32
  let v630 : BitVec 32 := Scalar.muli v597 c4_i32_412
  let c2_i32_413 : BitVec 32 := 2#32
  let v631 : BitVec 32 := Scalar.addi v630 c2_i32_413
  let c0_i32_1190 : BitVec 32 := 0#32
  let c0_i32_1191 : BitVec 32 := 0#32
  ![v631.toNat, 0, 0]
def k0_off199 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond76 (d0 : Dev nD) : BitVec 1 :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_418 : BitVec 32 := 4#32
  let v643 : BitVec 32 := Scalar.muli v597 c4_i32_418
  let c3_i32_419 : BitVec 32 := 3#32
  let v644 : BitVec 32 := Scalar.addi v643 c3_i32_419
  let v1790 : BitVec 1 := Scalar.cmpi .ne v644 v2
  let v1791 : BitVec 32 := Scalar.extui v1790
  let c0_i32_1168 : BitVec 32 := 0#32
  let v1792 : BitVec 1 := Scalar.cmpi .ne v1791 c0_i32_1168
  v1792

def k0_off200 (d0 : Dev nD) : Fin 1 → Nat :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_418 : BitVec 32 := 4#32
  let v643 : BitVec 32 := Scalar.muli v597 c4_i32_418
  let c3_i32_419 : BitVec 32 := 3#32
  let v644 : BitVec 32 := Scalar.addi v643 c3_i32_419
  ![v644.toNat]
def k0_off201 (d0 : Dev nD) : Fin 3 → Nat :=
  let c2_i32_394 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v596 : BitVec 32 := Scalar.addi c2_i32_394 v428
  let c8_i32_395 : BitVec 32 := 8#32
  let v597 : BitVec 32 := Scalar.remsi v596 c8_i32_395
  let c4_i32_418 : BitVec 32 := 4#32
  let v643 : BitVec 32 := Scalar.muli v597 c4_i32_418
  let c3_i32_419 : BitVec 32 := 3#32
  let v644 : BitVec 32 := Scalar.addi v643 c3_i32_419
  let c0_i32_1190 : BitVec 32 := 0#32
  let c0_i32_1191 : BitVec 32 := 0#32
  ![v644.toNat, 0, 0]
def k0_off202 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond77 (d0 : Dev nD) : BitVec 1 :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_443 : BitVec 32 := 4#32
  let v677 : BitVec 32 := Scalar.muli v670 c4_i32_443
  let c0_i32_444 : BitVec 32 := 0#32
  let v678 : BitVec 32 := Scalar.addi v677 c0_i32_444
  let v1793 : BitVec 1 := Scalar.cmpi .ne v678 v2
  let v1794 : BitVec 32 := Scalar.extui v1793
  let c0_i32_1169 : BitVec 32 := 0#32
  let v1795 : BitVec 1 := Scalar.cmpi .ne v1794 c0_i32_1169
  v1795

def k0_off203 (d0 : Dev nD) : Fin 1 → Nat :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_443 : BitVec 32 := 4#32
  let v677 : BitVec 32 := Scalar.muli v670 c4_i32_443
  let c0_i32_444 : BitVec 32 := 0#32
  let v678 : BitVec 32 := Scalar.addi v677 c0_i32_444
  ![v678.toNat]
def k0_off204 (d0 : Dev nD) : Fin 3 → Nat :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_443 : BitVec 32 := 4#32
  let v677 : BitVec 32 := Scalar.muli v670 c4_i32_443
  let c0_i32_444 : BitVec 32 := 0#32
  let v678 : BitVec 32 := Scalar.addi v677 c0_i32_444
  let c0_i32_1190 : BitVec 32 := 0#32
  let c0_i32_1191 : BitVec 32 := 0#32
  ![v678.toNat, 0, 0]
def k0_off205 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond78 (d0 : Dev nD) : BitVec 1 :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_449 : BitVec 32 := 4#32
  let v690 : BitVec 32 := Scalar.muli v670 c4_i32_449
  let c1_i32_450 : BitVec 32 := 1#32
  let v691 : BitVec 32 := Scalar.addi v690 c1_i32_450
  let v1796 : BitVec 1 := Scalar.cmpi .ne v691 v2
  let v1797 : BitVec 32 := Scalar.extui v1796
  let c0_i32_1170 : BitVec 32 := 0#32
  let v1798 : BitVec 1 := Scalar.cmpi .ne v1797 c0_i32_1170
  v1798

def k0_off206 (d0 : Dev nD) : Fin 1 → Nat :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_449 : BitVec 32 := 4#32
  let v690 : BitVec 32 := Scalar.muli v670 c4_i32_449
  let c1_i32_450 : BitVec 32 := 1#32
  let v691 : BitVec 32 := Scalar.addi v690 c1_i32_450
  ![v691.toNat]
def k0_off207 (d0 : Dev nD) : Fin 3 → Nat :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_449 : BitVec 32 := 4#32
  let v690 : BitVec 32 := Scalar.muli v670 c4_i32_449
  let c1_i32_450 : BitVec 32 := 1#32
  let v691 : BitVec 32 := Scalar.addi v690 c1_i32_450
  let c0_i32_1190 : BitVec 32 := 0#32
  let c0_i32_1191 : BitVec 32 := 0#32
  ![v691.toNat, 0, 0]
def k0_off208 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond79 (d0 : Dev nD) : BitVec 1 :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_455 : BitVec 32 := 4#32
  let v703 : BitVec 32 := Scalar.muli v670 c4_i32_455
  let c2_i32_456 : BitVec 32 := 2#32
  let v704 : BitVec 32 := Scalar.addi v703 c2_i32_456
  let v1799 : BitVec 1 := Scalar.cmpi .ne v704 v2
  let v1800 : BitVec 32 := Scalar.extui v1799
  let c0_i32_1171 : BitVec 32 := 0#32
  let v1801 : BitVec 1 := Scalar.cmpi .ne v1800 c0_i32_1171
  v1801

def k0_off209 (d0 : Dev nD) : Fin 1 → Nat :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_455 : BitVec 32 := 4#32
  let v703 : BitVec 32 := Scalar.muli v670 c4_i32_455
  let c2_i32_456 : BitVec 32 := 2#32
  let v704 : BitVec 32 := Scalar.addi v703 c2_i32_456
  ![v704.toNat]
def k0_off210 (d0 : Dev nD) : Fin 3 → Nat :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_455 : BitVec 32 := 4#32
  let v703 : BitVec 32 := Scalar.muli v670 c4_i32_455
  let c2_i32_456 : BitVec 32 := 2#32
  let v704 : BitVec 32 := Scalar.addi v703 c2_i32_456
  let c0_i32_1190 : BitVec 32 := 0#32
  let c0_i32_1191 : BitVec 32 := 0#32
  ![v704.toNat, 0, 0]
def k0_off211 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond80 (d0 : Dev nD) : BitVec 1 :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_461 : BitVec 32 := 4#32
  let v716 : BitVec 32 := Scalar.muli v670 c4_i32_461
  let c3_i32_462 : BitVec 32 := 3#32
  let v717 : BitVec 32 := Scalar.addi v716 c3_i32_462
  let v1802 : BitVec 1 := Scalar.cmpi .ne v717 v2
  let v1803 : BitVec 32 := Scalar.extui v1802
  let c0_i32_1172 : BitVec 32 := 0#32
  let v1804 : BitVec 1 := Scalar.cmpi .ne v1803 c0_i32_1172
  v1804

def k0_off212 (d0 : Dev nD) : Fin 1 → Nat :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_461 : BitVec 32 := 4#32
  let v716 : BitVec 32 := Scalar.muli v670 c4_i32_461
  let c3_i32_462 : BitVec 32 := 3#32
  let v717 : BitVec 32 := Scalar.addi v716 c3_i32_462
  ![v717.toNat]
def k0_off213 (d0 : Dev nD) : Fin 3 → Nat :=
  let c3_i32_437 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v669 : BitVec 32 := Scalar.addi c3_i32_437 v428
  let c8_i32_438 : BitVec 32 := 8#32
  let v670 : BitVec 32 := Scalar.remsi v669 c8_i32_438
  let c4_i32_461 : BitVec 32 := 4#32
  let v716 : BitVec 32 := Scalar.muli v670 c4_i32_461
  let c3_i32_462 : BitVec 32 := 3#32
  let v717 : BitVec 32 := Scalar.addi v716 c3_i32_462
  let c0_i32_1190 : BitVec 32 := 0#32
  let c0_i32_1191 : BitVec 32 := 0#32
  ![v717.toNat, 0, 0]
def k0_off214 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond81 (d0 : Dev nD) : BitVec 1 :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_486 : BitVec 32 := 4#32
  let v750 : BitVec 32 := Scalar.muli v743 c4_i32_486
  let c0_i32_487 : BitVec 32 := 0#32
  let v751 : BitVec 32 := Scalar.addi v750 c0_i32_487
  let v1805 : BitVec 1 := Scalar.cmpi .ne v751 v2
  let v1806 : BitVec 32 := Scalar.extui v1805
  let c0_i32_1173 : BitVec 32 := 0#32
  let v1807 : BitVec 1 := Scalar.cmpi .ne v1806 c0_i32_1173
  v1807

def k0_off215 (d0 : Dev nD) : Fin 1 → Nat :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_486 : BitVec 32 := 4#32
  let v750 : BitVec 32 := Scalar.muli v743 c4_i32_486
  let c0_i32_487 : BitVec 32 := 0#32
  let v751 : BitVec 32 := Scalar.addi v750 c0_i32_487
  ![v751.toNat]
def k0_off216 (d0 : Dev nD) : Fin 3 → Nat :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_486 : BitVec 32 := 4#32
  let v750 : BitVec 32 := Scalar.muli v743 c4_i32_486
  let c0_i32_487 : BitVec 32 := 0#32
  let v751 : BitVec 32 := Scalar.addi v750 c0_i32_487
  let c0_i32_1190 : BitVec 32 := 0#32
  let c0_i32_1191 : BitVec 32 := 0#32
  ![v751.toNat, 0, 0]
def k0_off217 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond82 (d0 : Dev nD) : BitVec 1 :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_492 : BitVec 32 := 4#32
  let v763 : BitVec 32 := Scalar.muli v743 c4_i32_492
  let c1_i32_493 : BitVec 32 := 1#32
  let v764 : BitVec 32 := Scalar.addi v763 c1_i32_493
  let v1808 : BitVec 1 := Scalar.cmpi .ne v764 v2
  let v1809 : BitVec 32 := Scalar.extui v1808
  let c0_i32_1174 : BitVec 32 := 0#32
  let v1810 : BitVec 1 := Scalar.cmpi .ne v1809 c0_i32_1174
  v1810

def k0_off218 (d0 : Dev nD) : Fin 1 → Nat :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_492 : BitVec 32 := 4#32
  let v763 : BitVec 32 := Scalar.muli v743 c4_i32_492
  let c1_i32_493 : BitVec 32 := 1#32
  let v764 : BitVec 32 := Scalar.addi v763 c1_i32_493
  ![v764.toNat]
def k0_off219 (d0 : Dev nD) : Fin 3 → Nat :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_492 : BitVec 32 := 4#32
  let v763 : BitVec 32 := Scalar.muli v743 c4_i32_492
  let c1_i32_493 : BitVec 32 := 1#32
  let v764 : BitVec 32 := Scalar.addi v763 c1_i32_493
  let c0_i32_1190 : BitVec 32 := 0#32
  let c0_i32_1191 : BitVec 32 := 0#32
  ![v764.toNat, 0, 0]
def k0_off220 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond83 (d0 : Dev nD) : BitVec 1 :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_498 : BitVec 32 := 4#32
  let v776 : BitVec 32 := Scalar.muli v743 c4_i32_498
  let c2_i32_499 : BitVec 32 := 2#32
  let v777 : BitVec 32 := Scalar.addi v776 c2_i32_499
  let v1811 : BitVec 1 := Scalar.cmpi .ne v777 v2
  let v1812 : BitVec 32 := Scalar.extui v1811
  let c0_i32_1175 : BitVec 32 := 0#32
  let v1813 : BitVec 1 := Scalar.cmpi .ne v1812 c0_i32_1175
  v1813

def k0_off221 (d0 : Dev nD) : Fin 1 → Nat :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_498 : BitVec 32 := 4#32
  let v776 : BitVec 32 := Scalar.muli v743 c4_i32_498
  let c2_i32_499 : BitVec 32 := 2#32
  let v777 : BitVec 32 := Scalar.addi v776 c2_i32_499
  ![v777.toNat]
def k0_off222 (d0 : Dev nD) : Fin 3 → Nat :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_498 : BitVec 32 := 4#32
  let v776 : BitVec 32 := Scalar.muli v743 c4_i32_498
  let c2_i32_499 : BitVec 32 := 2#32
  let v777 : BitVec 32 := Scalar.addi v776 c2_i32_499
  let c0_i32_1190 : BitVec 32 := 0#32
  let c0_i32_1191 : BitVec 32 := 0#32
  ![v777.toNat, 0, 0]
def k0_off223 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond84 (d0 : Dev nD) : BitVec 1 :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_504 : BitVec 32 := 4#32
  let v789 : BitVec 32 := Scalar.muli v743 c4_i32_504
  let c3_i32_505 : BitVec 32 := 3#32
  let v790 : BitVec 32 := Scalar.addi v789 c3_i32_505
  let v1814 : BitVec 1 := Scalar.cmpi .ne v790 v2
  let v1815 : BitVec 32 := Scalar.extui v1814
  let c0_i32_1176 : BitVec 32 := 0#32
  let v1816 : BitVec 1 := Scalar.cmpi .ne v1815 c0_i32_1176
  v1816

def k0_off224 (d0 : Dev nD) : Fin 1 → Nat :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_504 : BitVec 32 := 4#32
  let v789 : BitVec 32 := Scalar.muli v743 c4_i32_504
  let c3_i32_505 : BitVec 32 := 3#32
  let v790 : BitVec 32 := Scalar.addi v789 c3_i32_505
  ![v790.toNat]
def k0_off225 (d0 : Dev nD) : Fin 3 → Nat :=
  let c4_i32_480 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v742 : BitVec 32 := Scalar.addi c4_i32_480 v428
  let c8_i32_481 : BitVec 32 := 8#32
  let v743 : BitVec 32 := Scalar.remsi v742 c8_i32_481
  let c4_i32_504 : BitVec 32 := 4#32
  let v789 : BitVec 32 := Scalar.muli v743 c4_i32_504
  let c3_i32_505 : BitVec 32 := 3#32
  let v790 : BitVec 32 := Scalar.addi v789 c3_i32_505
  let c0_i32_1190 : BitVec 32 := 0#32
  let c0_i32_1191 : BitVec 32 := 0#32
  ![v790.toNat, 0, 0]
def k0_off226 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond85 (d0 : Dev nD) : BitVec 1 :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_529 : BitVec 32 := 4#32
  let v823 : BitVec 32 := Scalar.muli v816 c4_i32_529
  let c0_i32_530 : BitVec 32 := 0#32
  let v824 : BitVec 32 := Scalar.addi v823 c0_i32_530
  let v1817 : BitVec 1 := Scalar.cmpi .ne v824 v2
  let v1818 : BitVec 32 := Scalar.extui v1817
  let c0_i32_1177 : BitVec 32 := 0#32
  let v1819 : BitVec 1 := Scalar.cmpi .ne v1818 c0_i32_1177
  v1819

def k0_off227 (d0 : Dev nD) : Fin 1 → Nat :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_529 : BitVec 32 := 4#32
  let v823 : BitVec 32 := Scalar.muli v816 c4_i32_529
  let c0_i32_530 : BitVec 32 := 0#32
  let v824 : BitVec 32 := Scalar.addi v823 c0_i32_530
  ![v824.toNat]
def k0_off228 (d0 : Dev nD) : Fin 3 → Nat :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_529 : BitVec 32 := 4#32
  let v823 : BitVec 32 := Scalar.muli v816 c4_i32_529
  let c0_i32_530 : BitVec 32 := 0#32
  let v824 : BitVec 32 := Scalar.addi v823 c0_i32_530
  let c0_i32_1190 : BitVec 32 := 0#32
  let c0_i32_1191 : BitVec 32 := 0#32
  ![v824.toNat, 0, 0]
def k0_off229 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond86 (d0 : Dev nD) : BitVec 1 :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_535 : BitVec 32 := 4#32
  let v836 : BitVec 32 := Scalar.muli v816 c4_i32_535
  let c1_i32_536 : BitVec 32 := 1#32
  let v837 : BitVec 32 := Scalar.addi v836 c1_i32_536
  let v1820 : BitVec 1 := Scalar.cmpi .ne v837 v2
  let v1821 : BitVec 32 := Scalar.extui v1820
  let c0_i32_1178 : BitVec 32 := 0#32
  let v1822 : BitVec 1 := Scalar.cmpi .ne v1821 c0_i32_1178
  v1822

def k0_off230 (d0 : Dev nD) : Fin 1 → Nat :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_535 : BitVec 32 := 4#32
  let v836 : BitVec 32 := Scalar.muli v816 c4_i32_535
  let c1_i32_536 : BitVec 32 := 1#32
  let v837 : BitVec 32 := Scalar.addi v836 c1_i32_536
  ![v837.toNat]
def k0_off231 (d0 : Dev nD) : Fin 3 → Nat :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_535 : BitVec 32 := 4#32
  let v836 : BitVec 32 := Scalar.muli v816 c4_i32_535
  let c1_i32_536 : BitVec 32 := 1#32
  let v837 : BitVec 32 := Scalar.addi v836 c1_i32_536
  let c0_i32_1190 : BitVec 32 := 0#32
  let c0_i32_1191 : BitVec 32 := 0#32
  ![v837.toNat, 0, 0]
def k0_off232 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond87 (d0 : Dev nD) : BitVec 1 :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_541 : BitVec 32 := 4#32
  let v849 : BitVec 32 := Scalar.muli v816 c4_i32_541
  let c2_i32_542 : BitVec 32 := 2#32
  let v850 : BitVec 32 := Scalar.addi v849 c2_i32_542
  let v1823 : BitVec 1 := Scalar.cmpi .ne v850 v2
  let v1824 : BitVec 32 := Scalar.extui v1823
  let c0_i32_1179 : BitVec 32 := 0#32
  let v1825 : BitVec 1 := Scalar.cmpi .ne v1824 c0_i32_1179
  v1825

def k0_off233 (d0 : Dev nD) : Fin 1 → Nat :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_541 : BitVec 32 := 4#32
  let v849 : BitVec 32 := Scalar.muli v816 c4_i32_541
  let c2_i32_542 : BitVec 32 := 2#32
  let v850 : BitVec 32 := Scalar.addi v849 c2_i32_542
  ![v850.toNat]
def k0_off234 (d0 : Dev nD) : Fin 3 → Nat :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_541 : BitVec 32 := 4#32
  let v849 : BitVec 32 := Scalar.muli v816 c4_i32_541
  let c2_i32_542 : BitVec 32 := 2#32
  let v850 : BitVec 32 := Scalar.addi v849 c2_i32_542
  let c0_i32_1190 : BitVec 32 := 0#32
  let c0_i32_1191 : BitVec 32 := 0#32
  ![v850.toNat, 0, 0]
def k0_off235 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond88 (d0 : Dev nD) : BitVec 1 :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_547 : BitVec 32 := 4#32
  let v862 : BitVec 32 := Scalar.muli v816 c4_i32_547
  let c3_i32_548 : BitVec 32 := 3#32
  let v863 : BitVec 32 := Scalar.addi v862 c3_i32_548
  let v1826 : BitVec 1 := Scalar.cmpi .ne v863 v2
  let v1827 : BitVec 32 := Scalar.extui v1826
  let c0_i32_1180 : BitVec 32 := 0#32
  let v1828 : BitVec 1 := Scalar.cmpi .ne v1827 c0_i32_1180
  v1828

def k0_off236 (d0 : Dev nD) : Fin 1 → Nat :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_547 : BitVec 32 := 4#32
  let v862 : BitVec 32 := Scalar.muli v816 c4_i32_547
  let c3_i32_548 : BitVec 32 := 3#32
  let v863 : BitVec 32 := Scalar.addi v862 c3_i32_548
  ![v863.toNat]
def k0_off237 (d0 : Dev nD) : Fin 3 → Nat :=
  let c5_i32_523 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v815 : BitVec 32 := Scalar.addi c5_i32_523 v428
  let c8_i32_524 : BitVec 32 := 8#32
  let v816 : BitVec 32 := Scalar.remsi v815 c8_i32_524
  let c4_i32_547 : BitVec 32 := 4#32
  let v862 : BitVec 32 := Scalar.muli v816 c4_i32_547
  let c3_i32_548 : BitVec 32 := 3#32
  let v863 : BitVec 32 := Scalar.addi v862 c3_i32_548
  let c0_i32_1190 : BitVec 32 := 0#32
  let c0_i32_1191 : BitVec 32 := 0#32
  ![v863.toNat, 0, 0]
def k0_off238 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond89 (d0 : Dev nD) : BitVec 1 :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_572 : BitVec 32 := 4#32
  let v896 : BitVec 32 := Scalar.muli v889 c4_i32_572
  let c0_i32_573 : BitVec 32 := 0#32
  let v897 : BitVec 32 := Scalar.addi v896 c0_i32_573
  let v1829 : BitVec 1 := Scalar.cmpi .ne v897 v2
  let v1830 : BitVec 32 := Scalar.extui v1829
  let c0_i32_1181 : BitVec 32 := 0#32
  let v1831 : BitVec 1 := Scalar.cmpi .ne v1830 c0_i32_1181
  v1831

def k0_off239 (d0 : Dev nD) : Fin 1 → Nat :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_572 : BitVec 32 := 4#32
  let v896 : BitVec 32 := Scalar.muli v889 c4_i32_572
  let c0_i32_573 : BitVec 32 := 0#32
  let v897 : BitVec 32 := Scalar.addi v896 c0_i32_573
  ![v897.toNat]
def k0_off240 (d0 : Dev nD) : Fin 3 → Nat :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_572 : BitVec 32 := 4#32
  let v896 : BitVec 32 := Scalar.muli v889 c4_i32_572
  let c0_i32_573 : BitVec 32 := 0#32
  let v897 : BitVec 32 := Scalar.addi v896 c0_i32_573
  let c0_i32_1190 : BitVec 32 := 0#32
  let c0_i32_1191 : BitVec 32 := 0#32
  ![v897.toNat, 0, 0]
def k0_off241 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond90 (d0 : Dev nD) : BitVec 1 :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_578 : BitVec 32 := 4#32
  let v909 : BitVec 32 := Scalar.muli v889 c4_i32_578
  let c1_i32_579 : BitVec 32 := 1#32
  let v910 : BitVec 32 := Scalar.addi v909 c1_i32_579
  let v1832 : BitVec 1 := Scalar.cmpi .ne v910 v2
  let v1833 : BitVec 32 := Scalar.extui v1832
  let c0_i32_1182 : BitVec 32 := 0#32
  let v1834 : BitVec 1 := Scalar.cmpi .ne v1833 c0_i32_1182
  v1834

def k0_off242 (d0 : Dev nD) : Fin 1 → Nat :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_578 : BitVec 32 := 4#32
  let v909 : BitVec 32 := Scalar.muli v889 c4_i32_578
  let c1_i32_579 : BitVec 32 := 1#32
  let v910 : BitVec 32 := Scalar.addi v909 c1_i32_579
  ![v910.toNat]
def k0_off243 (d0 : Dev nD) : Fin 3 → Nat :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_578 : BitVec 32 := 4#32
  let v909 : BitVec 32 := Scalar.muli v889 c4_i32_578
  let c1_i32_579 : BitVec 32 := 1#32
  let v910 : BitVec 32 := Scalar.addi v909 c1_i32_579
  let c0_i32_1190 : BitVec 32 := 0#32
  let c0_i32_1191 : BitVec 32 := 0#32
  ![v910.toNat, 0, 0]
def k0_off244 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond91 (d0 : Dev nD) : BitVec 1 :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_584 : BitVec 32 := 4#32
  let v922 : BitVec 32 := Scalar.muli v889 c4_i32_584
  let c2_i32_585 : BitVec 32 := 2#32
  let v923 : BitVec 32 := Scalar.addi v922 c2_i32_585
  let v1835 : BitVec 1 := Scalar.cmpi .ne v923 v2
  let v1836 : BitVec 32 := Scalar.extui v1835
  let c0_i32_1183 : BitVec 32 := 0#32
  let v1837 : BitVec 1 := Scalar.cmpi .ne v1836 c0_i32_1183
  v1837

def k0_off245 (d0 : Dev nD) : Fin 1 → Nat :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_584 : BitVec 32 := 4#32
  let v922 : BitVec 32 := Scalar.muli v889 c4_i32_584
  let c2_i32_585 : BitVec 32 := 2#32
  let v923 : BitVec 32 := Scalar.addi v922 c2_i32_585
  ![v923.toNat]
def k0_off246 (d0 : Dev nD) : Fin 3 → Nat :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_584 : BitVec 32 := 4#32
  let v922 : BitVec 32 := Scalar.muli v889 c4_i32_584
  let c2_i32_585 : BitVec 32 := 2#32
  let v923 : BitVec 32 := Scalar.addi v922 c2_i32_585
  let c0_i32_1190 : BitVec 32 := 0#32
  let c0_i32_1191 : BitVec 32 := 0#32
  ![v923.toNat, 0, 0]
def k0_off247 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond92 (d0 : Dev nD) : BitVec 1 :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_590 : BitVec 32 := 4#32
  let v935 : BitVec 32 := Scalar.muli v889 c4_i32_590
  let c3_i32_591 : BitVec 32 := 3#32
  let v936 : BitVec 32 := Scalar.addi v935 c3_i32_591
  let v1838 : BitVec 1 := Scalar.cmpi .ne v936 v2
  let v1839 : BitVec 32 := Scalar.extui v1838
  let c0_i32_1184 : BitVec 32 := 0#32
  let v1840 : BitVec 1 := Scalar.cmpi .ne v1839 c0_i32_1184
  v1840

def k0_off248 (d0 : Dev nD) : Fin 1 → Nat :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_590 : BitVec 32 := 4#32
  let v935 : BitVec 32 := Scalar.muli v889 c4_i32_590
  let c3_i32_591 : BitVec 32 := 3#32
  let v936 : BitVec 32 := Scalar.addi v935 c3_i32_591
  ![v936.toNat]
def k0_off249 (d0 : Dev nD) : Fin 3 → Nat :=
  let c6_i32_566 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v888 : BitVec 32 := Scalar.addi c6_i32_566 v428
  let c8_i32_567 : BitVec 32 := 8#32
  let v889 : BitVec 32 := Scalar.remsi v888 c8_i32_567
  let c4_i32_590 : BitVec 32 := 4#32
  let v935 : BitVec 32 := Scalar.muli v889 c4_i32_590
  let c3_i32_591 : BitVec 32 := 3#32
  let v936 : BitVec 32 := Scalar.addi v935 c3_i32_591
  let c0_i32_1190 : BitVec 32 := 0#32
  let c0_i32_1191 : BitVec 32 := 0#32
  ![v936.toNat, 0, 0]
def k0_off250 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond93 (d0 : Dev nD) : BitVec 1 :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_607 : BitVec 32 := 4#32
  let v961 : BitVec 32 := Scalar.muli v954 c4_i32_607
  let c0_i32_608 : BitVec 32 := 0#32
  let v962 : BitVec 32 := Scalar.addi v961 c0_i32_608
  let v1841 : BitVec 1 := Scalar.cmpi .ne v962 v2
  let v1842 : BitVec 32 := Scalar.extui v1841
  let c0_i32_1185 : BitVec 32 := 0#32
  let v1843 : BitVec 1 := Scalar.cmpi .ne v1842 c0_i32_1185
  v1843

def k0_off251 (d0 : Dev nD) : Fin 1 → Nat :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_607 : BitVec 32 := 4#32
  let v961 : BitVec 32 := Scalar.muli v954 c4_i32_607
  let c0_i32_608 : BitVec 32 := 0#32
  let v962 : BitVec 32 := Scalar.addi v961 c0_i32_608
  ![v962.toNat]
def k0_off252 (d0 : Dev nD) : Fin 3 → Nat :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_607 : BitVec 32 := 4#32
  let v961 : BitVec 32 := Scalar.muli v954 c4_i32_607
  let c0_i32_608 : BitVec 32 := 0#32
  let v962 : BitVec 32 := Scalar.addi v961 c0_i32_608
  let c0_i32_1190 : BitVec 32 := 0#32
  let c0_i32_1191 : BitVec 32 := 0#32
  ![v962.toNat, 0, 0]
def k0_off253 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond94 (d0 : Dev nD) : BitVec 1 :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_613 : BitVec 32 := 4#32
  let v974 : BitVec 32 := Scalar.muli v954 c4_i32_613
  let c1_i32_614 : BitVec 32 := 1#32
  let v975 : BitVec 32 := Scalar.addi v974 c1_i32_614
  let v1844 : BitVec 1 := Scalar.cmpi .ne v975 v2
  let v1845 : BitVec 32 := Scalar.extui v1844
  let c0_i32_1186 : BitVec 32 := 0#32
  let v1846 : BitVec 1 := Scalar.cmpi .ne v1845 c0_i32_1186
  v1846

def k0_off254 (d0 : Dev nD) : Fin 1 → Nat :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_613 : BitVec 32 := 4#32
  let v974 : BitVec 32 := Scalar.muli v954 c4_i32_613
  let c1_i32_614 : BitVec 32 := 1#32
  let v975 : BitVec 32 := Scalar.addi v974 c1_i32_614
  ![v975.toNat]
def k0_off255 (d0 : Dev nD) : Fin 3 → Nat :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_613 : BitVec 32 := 4#32
  let v974 : BitVec 32 := Scalar.muli v954 c4_i32_613
  let c1_i32_614 : BitVec 32 := 1#32
  let v975 : BitVec 32 := Scalar.addi v974 c1_i32_614
  let c0_i32_1190 : BitVec 32 := 0#32
  let c0_i32_1191 : BitVec 32 := 0#32
  ![v975.toNat, 0, 0]
def k0_off256 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond95 (d0 : Dev nD) : BitVec 1 :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_619 : BitVec 32 := 4#32
  let v987 : BitVec 32 := Scalar.muli v954 c4_i32_619
  let c2_i32_620 : BitVec 32 := 2#32
  let v988 : BitVec 32 := Scalar.addi v987 c2_i32_620
  let v1847 : BitVec 1 := Scalar.cmpi .ne v988 v2
  let v1848 : BitVec 32 := Scalar.extui v1847
  let c0_i32_1187 : BitVec 32 := 0#32
  let v1849 : BitVec 1 := Scalar.cmpi .ne v1848 c0_i32_1187
  v1849

def k0_off257 (d0 : Dev nD) : Fin 1 → Nat :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_619 : BitVec 32 := 4#32
  let v987 : BitVec 32 := Scalar.muli v954 c4_i32_619
  let c2_i32_620 : BitVec 32 := 2#32
  let v988 : BitVec 32 := Scalar.addi v987 c2_i32_620
  ![v988.toNat]
def k0_off258 (d0 : Dev nD) : Fin 3 → Nat :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_619 : BitVec 32 := 4#32
  let v987 : BitVec 32 := Scalar.muli v954 c4_i32_619
  let c2_i32_620 : BitVec 32 := 2#32
  let v988 : BitVec 32 := Scalar.addi v987 c2_i32_620
  let c0_i32_1190 : BitVec 32 := 0#32
  let c0_i32_1191 : BitVec 32 := 0#32
  ![v988.toNat, 0, 0]
def k0_off259 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
def k0_cond96 (d0 : Dev nD) : BitVec 1 :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_625 : BitVec 32 := 4#32
  let v1000 : BitVec 32 := Scalar.muli v954 c4_i32_625
  let c3_i32_626 : BitVec 32 := 3#32
  let v1001 : BitVec 32 := Scalar.addi v1000 c3_i32_626
  let v1850 : BitVec 1 := Scalar.cmpi .ne v1001 v2
  let v1851 : BitVec 32 := Scalar.extui v1850
  let c0_i32_1188 : BitVec 32 := 0#32
  let v1852 : BitVec 1 := Scalar.cmpi .ne v1851 c0_i32_1188
  v1852

def k0_off260 (d0 : Dev nD) : Fin 1 → Nat :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_625 : BitVec 32 := 4#32
  let v1000 : BitVec 32 := Scalar.muli v954 c4_i32_625
  let c3_i32_626 : BitVec 32 := 3#32
  let v1001 : BitVec 32 := Scalar.addi v1000 c3_i32_626
  ![v1001.toNat]
def k0_off261 (d0 : Dev nD) : Fin 3 → Nat :=
  let c7_i32_601 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_283 : BitVec 32 := 0#32
  let v413 : BitVec 1 := Scalar.cmpi .sgt v2 c0_i32_283
  let v414 : BitVec 32 := Scalar.extui v413
  let c0_i32_284 : BitVec 32 := 0#32
  let v415 : BitVec 1 := Scalar.cmpi .slt v2 c0_i32_284
  let v416 : BitVec 32 := Scalar.extui v415
  let v417 : BitVec 32 := Scalar.subi v414 v416
  let c4_i32_282 : BitVec 32 := 4#32
  let c0_i32_285 : BitVec 32 := 0#32
  let v418 : BitVec 1 := Scalar.cmpi .sgt c4_i32_282 c0_i32_285
  let v419 : BitVec 32 := Scalar.extui v418
  let c0_i32_286 : BitVec 32 := 0#32
  let v420 : BitVec 1 := Scalar.cmpi .slt c4_i32_282 c0_i32_286
  let v421 : BitVec 32 := Scalar.extui v420
  let v422 : BitVec 32 := Scalar.subi v419 v421
  let v423 : BitVec 1 := Scalar.cmpi .ne v417 v422
  let v424 : BitVec 32 := Scalar.remsi v2 c4_i32_282
  let c0_i32_287 : BitVec 32 := 0#32
  let v425 : BitVec 1 := Scalar.cmpi .ne v424 c0_i32_287
  let v426 : BitVec 1 := Scalar.andi v423 v425
  let v412 : BitVec 32 := Scalar.divsi v2 c4_i32_282
  let c1_i32_288 : BitVec 32 := 1#32
  let v427 : BitVec 32 := Scalar.subi v412 c1_i32_288
  let v428 : BitVec 32 := Scalar.select v426 v427 v412
  let v953 : BitVec 32 := Scalar.addi c7_i32_601 v428
  let c8_i32_602 : BitVec 32 := 8#32
  let v954 : BitVec 32 := Scalar.remsi v953 c8_i32_602
  let c4_i32_625 : BitVec 32 := 4#32
  let v1000 : BitVec 32 := Scalar.muli v954 c4_i32_625
  let c3_i32_626 : BitVec 32 := 3#32
  let v1001 : BitVec 32 := Scalar.addi v1000 c3_i32_626
  let c0_i32_1190 : BitVec 32 := 0#32
  let c0_i32_1191 : BitVec 32 := 0#32
  ![v1001.toNat, 0, 0]
def k0_off262 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_1192 : BitVec 32 := 0#32
  let c0_i32_1193 : BitVec 32 := 0#32
  ![v2.toNat, 0, 0]
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.KernelIdealCells.lean ====
/-
# The cross-device protocol of the all-to-all kernel: cells, contents, schedule, levels

Thirty-two devices. Device `c` multiplies its row block of `x` by the whole of `w`, cuts the product
into thirty-two column blocks of width 64, keeps block `c` and sends block `b` to device `b`.

Semaphores of a device `c`:
* the barrier cell: every other device `d` signals it once; with the signal it hands over slot `c` of its
  landing buffer (where `c`'s block for `d` will land);
* two load cells, one per half of the double buffer of `w`: `c` itself fills each half four times;
* thirty-two send cells, one per block sent: the block's slot of the send buffer comes back;
* thirty-two receive cells, one per sender `s`: the landing slot `s`, holding what `s` sent.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds beside the protocol's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Positions on the mesh -/

set_option backward.proofsInPublic true in
/-- The block that device `c` handles at step `t` of its sending loop. -/
@[irreducible] def blkOf (c : Dev nD) (t : ℕ) : Dev nD := ⟨(t + 4 * (c.val / 4)) % 32, Nat.mod_lt _ (by decide)⟩
/-- The step at which device `c` handles block `b`. -/
def stepOf (c b : Dev nD) : ℕ := (b.val + 32 - 4 * (c.val / 4)) % 32
set_option backward.proofsInPublic true in
/-- The device that `c` signals at the `g`-th signal, `g = 0, …, 30`. -/
@[irreducible] def sigDev (c : Dev nD) (g : ℕ) : Dev nD := ⟨(c.val + (g + 1)) % 32, Nat.mod_lt _ (by decide)⟩
/-- The number of the signal that `c` sends to `d` (31 for itself: never). -/
def sigOf (c d : Dev nD) : ℕ := (d.val + 63 - c.val) % 32
set_option backward.proofsInPublic true in
/-- The device whose block `c` awaits at step `d` of its receiving loop. -/
@[irreducible] def srcOf (c : Dev nD) (d : ℕ) : Dev nD := ⟨(c.val + 64 - (d + 1)) % 32, Nat.mod_lt _ (by decide)⟩
/-- The step at which `c` awaits the block of `s` (31 for itself: never). -/
def rcvOf (c s : Dev nD) : ℕ := (c.val + 63 - s.val) % 32

theorem stepOf_lt (c b : Dev nD) : stepOf c b < 32 := Nat.mod_lt _ (by decide)
theorem stepOf_blkOf (c : Dev nD) {t : ℕ} (ht : t < 32) : stepOf c (blkOf c t) = t := by
  have h1 : c.val < 32 := c.isLt
  unfold stepOf blkOf; dsimp only; omega
theorem blkOf_stepOf (c b : Dev nD) : blkOf c (stepOf c b) = b := by
  have h1 : c.val < 32 := c.isLt
  have h2 : b.val < 32 := b.isLt
  refine Fin.ext ?_
  unfold stepOf blkOf; dsimp only; omega
theorem stepOf_inj {c b b' : Dev nD} (h : stepOf c b = stepOf c b') : b = b' := by
  rw [← blkOf_stepOf c b, h, blkOf_stepOf]
theorem sigOf_sigDev (c : Dev nD) {g : ℕ} (hg : g < 32) : sigOf c (sigDev c g) = g := by
  have h1 : c.val < 32 := c.isLt
  unfold sigOf sigDev; dsimp only; omega
theorem sigDev_sigOf (c d : Dev nD) : sigDev c (sigOf c d) = d := by
  have h1 : c.val < 32 := c.isLt
  have h2 : d.val < 32 := d.isLt
  refine Fin.ext ?_
  unfold sigOf sigDev; dsimp only; omega
theorem sigOf_inj {c b b' : Dev nD} (h : sigOf c b = sigOf c b') : b = b' := by
  rw [← sigDev_sigOf c b, h, sigDev_sigOf]
theorem sigOf_self (c : Dev nD) : sigOf c c = 31 := by
  have h1 : c.val < 32 := c.isLt
  unfold sigOf; omega
theorem sigOf_lt (c d : Dev nD) : sigOf c d < 32 := Nat.mod_lt _ (by decide)
theorem sigDev_ne (c : Dev nD) {g : ℕ} (hg : g < 31) : sigDev c g ≠ c := fun h => by
  have := sigOf_sigDev c (g := g) (by omega); rw [h, sigOf_self] at this; omega
theorem rcvOf_srcOf (c : Dev nD) {d : ℕ} (hd : d < 32) : rcvOf c (srcOf c d) = d := by
  have h1 : c.val < 32 := c.isLt
  unfold rcvOf srcOf; dsimp only; omega
theorem srcOf_rcvOf (c s : Dev nD) : srcOf c (rcvOf c s) = s := by
  have h1 : c.val < 32 := c.isLt
  have h2 : s.val < 32 := s.isLt
  refine Fin.ext ?_
  unfold rcvOf srcOf; dsimp only; omega
theorem rcvOf_inj {c b b' : Dev nD} (h : rcvOf c b = rcvOf c b') : b = b' := by
  rw [← srcOf_rcvOf c b, h, srcOf_rcvOf]
theorem rcvOf_self (c : Dev nD) : rcvOf c c = 31 := by
  have h1 : c.val < 32 := c.isLt
  unfold rcvOf; omega
theorem rcvOf_lt (c d : Dev nD) : rcvOf c d < 32 := Nat.mod_lt _ (by decide)
theorem srcOf_ne (c : Dev nD) {d : ℕ} (hd : d < 31) : srcOf c d ≠ c := fun h => by
  have := rcvOf_srcOf c (d := d) (by omega); rw [h, rcvOf_self] at this; omega

/-! ## Memrefs, rectangles, semaphores -/

abbrev xM : Memref sig .tc .vmem S128x4096 .f32 := Memref.whole cc0_stg0_0
abbrev wM : Memref sig .tc .hbm S4096x2048 .f32 := Memref.whole main_arg1
abbrev sxM : Memref sig .tc .smem S1 .f32 := Memref.whole cc0_stg1_0
abbrev swM : Memref sig .tc .smem S1 .f32 := Memref.whole cc0_stg2_0
abbrev oM : Memref sig .tc .vmem S4096x64 .f32 := Memref.whole cc0_stg3_0
abbrev bufM : Memref sig .tc .vmem S2x4096x256 .f32 := Memref.whole cc0_scratch0
abbrev sndM : Memref sig .tc .vmem S32x128x64 .bf16 := Memref.whole cc0_scratch1
abbrev rcvM : Memref sig .tc .vmem S32x128x64 .bf16 := Memref.whole cc0_scratch2

theorem slot_inb (b : Dev nD) : ∀ a, (![b.val, 0, 0] : Fin 3 → Nat) a + S1x128x64.size a ≤ S32x128x64.size a := by
  have h : b.val < 32 := b.isLt
  intro a
  match a with
  | 0 => show b.val + 1 ≤ 32; omega
  | 1 => show 0 + 128 ≤ 128; omega
  | 2 => show 0 + 64 ≤ 64; omega
theorem half_inb (l : Fin 2) : ∀ a, (![l.val, 0, 0] : Fin 3 → Nat) a + S1x4096x256.size a ≤ S2x4096x256.size a := by
  have h : l.val < 2 := l.isLt
  intro a
  match a with
  | 0 => show l.val + 1 ≤ 2; omega
  | 1 => show 0 + 4096 ≤ 4096; omega
  | 2 => show 0 + 256 ≤ 256; omega
theorem chunk_inb (j : Fin 8) : ∀ a, (![0, 256 * j.val] : Fin 2 → Nat) a + S4096x256.size a ≤ S4096x2048.size a := by
  have h : j.val < 8 := j.isLt
  intro a
  match a with
  | 0 => show 0 + 4096 ≤ 4096; omega
  | 1 => show 256 * j.val + 256 ≤ 2048; omega
theorem rows_inb (s : Dev nD) : ∀ a, (![128 * s.val, 0] : Fin 2 → Nat) a + S128x64.size a ≤ S4096x64.size a := by
  have h : s.val < 32 := s.isLt
  intro a
  match a with
  | 0 => show 128 * s.val + 128 ≤ 4096; omega
  | 1 => show 0 + 64 ≤ 64; omega

/-- Slot `b` of the send buffer or of the landing buffer. -/
abbrev slotR (b : Dev nD) : Rect S32x128x64 := Rect.unit (s := S32x128x64) ![b.val, 0, 0] S1x128x64.size (slot_inb b)
/-- Half `l` of the double buffer of `w`. -/
abbrev halfR (l : Fin 2) : Rect S2x4096x256 := Rect.unit (s := S2x4096x256) ![l.val, 0, 0] S1x4096x256.size (half_inb l)
/-- Column chunk `j` of `w`. -/
abbrev chunkR (j : Fin 8) : Rect S4096x2048 := Rect.unit (s := S4096x2048) ![0, 256 * j.val] S4096x256.size (chunk_inb j)
/-- Row block `s` of the result. -/
abbrev rowsR (s : Dev nD) : Rect S4096x64 := Rect.unit (s := S4096x64) ![128 * s.val, 0] S128x64.size (rows_inb s)

/-- The runtime's barrier semaphore. -/
abbrev barS : Sem sig := (SemArray.scalar (sig.barrier 0 rfl) : Sems sig S_).sem
set_option backward.proofsInPublic true in
def loadS (l : Fin 2) : DmaSem sig := (⟨4 + l.val, by have := l.isLt; show _ < 70; omega⟩ : Fin 70)
set_option backward.proofsInPublic true in
def sendS (b : Dev nD) : DmaSem sig := (⟨6 + b.val, by have : b.val < 32 := b.isLt; show _ < 70; omega⟩ : Fin 70)
set_option backward.proofsInPublic true in
def recvS (s : Dev nD) : DmaSem sig := (⟨38 + s.val, by have : s.val < 32 := s.isLt; show _ < 70; omega⟩ : Fin 70)

abbrev barCell (c : Dev nD) : GSem nD τ sig := ((c : Thread nD τ), .reg barS)
abbrev loadCell (c : Dev nD) (l : Fin 2) : GSem nD τ sig := ((c : Thread nD τ), .dma (loadS l))
abbrev sendCell (c b : Dev nD) : GSem nD τ sig := ((c : Thread nD τ), .dma (sendS b))
abbrev recvCell (c s : Dev nD) : GSem nD τ sig := ((c : Thread nD τ), .dma (recvS s))

/-- What a semaphore is for. -/
inductive Role where
  | bar | load (l : Fin 2) | send (b : Dev nD) | recv (s : Dev nD) | other
  deriving DecidableEq

set_option backward.proofsInPublic true in
/-- The role of each semaphore of a device. -/
def role : SemLoc sig → Role
  | .reg s => if s = barS then .bar else .other
  | .dma q =>
    if h : 4 ≤ (show Fin 70 from q).val ∧ (show Fin 70 from q).val < 6 then .load ⟨(show Fin 70 from q).val - 4, by omega⟩
    else if h : 6 ≤ (show Fin 70 from q).val ∧ (show Fin 70 from q).val < 38 then .send (⟨(show Fin 70 from q).val - 6, by omega⟩ : Fin 32)
    else if h : 38 ≤ (show Fin 70 from q).val then .recv (⟨(show Fin 70 from q).val - 38, by have := (show Fin 70 from q).isLt; omega⟩ : Fin 32)
    else .other

theorem role_bar : role (.reg barS) = .bar := by unfold role; exact if_pos rfl
theorem role_load (l : Fin 2) : role (.dma (loadS l)) = .load l := by revert l; decide
theorem role_send (b : Dev nD) : role (.dma (sendS b)) = .send b := by revert b; decide
theorem role_recv (s : Dev nD) : role (.dma (recvS s)) = .recv s := by revert s; decide

/-- The credit of one block and of one chunk of `w`. -/
@[irreducible] def N : ℕ := ((sndM.slice (slotR 0) (fun _ => rfl)).squeeze S128x64 squeezes_S1x128x64_S128x64).view.dmaCredit
@[irreducible] def NL : ℕ := ((bufM.slice (halfR 0) (fun _ => rfl)).squeeze S4096x256 squeezes_S1x4096x256_S4096x256).view.dmaCredit
theorem N_pos : 0 < N := by unfold N; exact View.dmaCredit_pos _ (by decide)
theorem NL_pos : 0 < NL := by unfold NL; exact View.dmaCredit_pos _ (by decide)

/-! ## Contents -/

variable (m : (ℓ : Loc nD τ sig) → Buf (Elt F) ℓ)

/-- The block of `x` on device `c`, as staged. -/
def xV (c : Dev nD) : (cc0_stg0_0 : Ref sig .tc).ty.Contents (Elt F) :=
  (win0_0.blk (0 : Fin 1)).view.read (Elt F) (m ((c : Thread nD τ).loc main_arg0))
/-- The two scales on device `c`, as staged. -/
def sxV (c : Dev nD) : (cc0_stg1_0 : Ref sig .tc).ty.Contents (Elt F) :=
  (win0_1.blk (0 : Fin 1)).view.read (Elt F) (m ((c : Thread nD τ).loc main_arg2))
def swV (c : Dev nD) : (cc0_stg2_0 : Ref sig .tc).ty.Contents (Elt F) :=
  (win0_2.blk (0 : Fin 1)).view.read (Elt F) (m ((c : Thread nD τ).loc main_arg3))
/-- The array `w` on device `c`. -/
def wV (c : Dev nD) : Buf (Elt F) ((c : Thread nD τ).loc main_arg1) := m ((c : Thread nD τ).loc main_arg1)

/-- The product of the two scales. -/
def sclV (c : Dev nD) : F .f32 :=
  k0_pay1 ((sxM.access (Rect.unit (s := S1) ![0] S1.size inb_S1_S1_0)).read (Elt F) (sxV m c) (Shape.Idx.first (numel1_S1.symm ▸ Nat.one_pos)))
    ((swM.access (Rect.unit (s := S1) ![0] S1.size inb_S1_S1_0)).read (Elt F) (swV m c) (Shape.Idx.first (numel1_S1.symm ▸ Nat.one_pos)))
/-- Column chunk `j` of `w`. -/
def chunkV (c : Dev nD) (j : Fin 8) : Vec F S4096x256 .f32 :=
  (wM.slice (chunkR j) (fun _ => rfl)).view.read (Elt F) (wV m c)
theorem casts_up : S4096x256.ShapeCasts S1x4096x256 := by decide
/-- The same as a half of the double buffer holds it. -/
def halfV (c : Dev nD) (j : Fin 8) : Vec F S1x4096x256 .f32 := shapeCast S1x4096x256 (chunkV m c j) casts_up
/-- The scaled product of the row block with chunk `j`, -/
def prodV (c : Dev nD) (j : Fin 8) : FVec F S128x256 .f32 := k0_pay15 (sclV m c) (k0_pay2 (xV m c)) (halfV m c j)
/-- and rounded to bfloat16. -/
def roundV (c : Dev nD) (j : Fin 8) : FVec F S128x256 .bf16 := truncf .bf16 (prodV m c j) bitsLt_bf16_f32

theorem slices_q (i : Fin 4) : S128x256.Slices ![0, 64 * i.val] S128x64 := by revert i; decide

/-- Which chunk block `b` lies in, and where in it. -/
@[irreducible] def chk (b : Dev nD) : Fin 8 := ⟨b.val / 4, by have : b.val < 32 := b.isLt; omega⟩
@[irreducible] def qtr (b : Dev nD) : Fin 4 := ⟨b.val % 4, Nat.mod_lt _ (by decide)⟩

/-- Column quarter `i` of the product with chunk `j`, not rounded, -/
def blockAt (c : Dev nD) (j : Fin 8) (i : Fin 4) : FVec F S128x64 .f32 :=
  extractStridedSlice S128x64 ![0, 64 * i.val] (prodV m c j) (slices_q i)
/-- and rounded, as it is sent. -/
def sentAt (c : Dev nD) (j : Fin 8) (i : Fin 4) : FVec F S1x128x64 .bf16 :=
  shapeCast S1x128x64 (extractStridedSlice S128x64 ![0, 64 * i.val] (roundV m c j) (slices_q i)) shapeCasts_S128x64_S1x128x64
/-- Block `b` of device `c`'s product, not rounded and rounded. -/
def blockV (c b : Dev nD) : FVec F S128x64 .f32 := blockAt m c (chk b) (qtr b)
def sentV (c b : Dev nD) : FVec F S1x128x64 .bf16 := sentAt m c (chk b) (qtr b)
/-- Row block `s` of the result on device `c`: its own block as computed, every other widened from what `s` sent. -/
def rowsV (c s : Dev nD) : FVec F S128x64 .f32 := if s = c then blockV m c c else k0_pay93 (sentV m s c)

/-! ## Points-to assertions -/

/-- Slot `b` of the send buffer of `c` reads `v`. -/
def sndPts (c b : Dev nD) (v : Vec F S1x128x64 .bf16) : sProp 𝕄 :=
  iprop(∃ f : Buf (Elt F) ((sndM.access (slotR b)).loc (c : Thread nD τ)), ⌜(sndM.access (slotR b)).read (Elt F) f = v⌝
    ∗ ((sndM.access (slotR b)).loc (c : Thread nD τ) ↦[(sndM.access (slotR b)).set]{fullShare} f))
/-- Slot `s` of the landing buffer of `c` reads `v`. -/
def rcvPts (c s : Dev nD) (v : Vec F S1x128x64 .bf16) : sProp 𝕄 :=
  iprop(∃ f : Buf (Elt F) ((rcvM.access (slotR s)).loc (c : Thread nD τ)), ⌜(rcvM.access (slotR s)).read (Elt F) f = v⌝
    ∗ ((rcvM.access (slotR s)).loc (c : Thread nD τ) ↦[(rcvM.access (slotR s)).set]{fullShare} f))
/-- Half `l` of the double buffer of `c` reads `v`. -/
def bufPts (c : Dev nD) (l : Fin 2) (v : Vec F S1x4096x256 .f32) : sProp 𝕄 :=
  iprop(∃ f : Buf (Elt F) ((bufM.access (halfR l)).loc (c : Thread nD τ)), ⌜(bufM.access (halfR l)).read (Elt F) f = v⌝
    ∗ ((bufM.access (halfR l)).loc (c : Thread nD τ) ↦[(bufM.access (halfR l)).set]{fullShare} f))

/-- The share of `w` that loads into half `l` read through. -/
def wShare (l : Fin 2) : PosShare TreeShare := if l = 0 then fullShare.left else fullShare.right
/-- The elements of chunk `j`. -/
def chunkSet (j : Fin 8) : Finset (wM.view.ty.shape.Idx) := (wM.slice (chunkR j) (fun _ => rfl)).view.set
/-- Chunk `j` of `w` at half `l`'s share; the rest of `w` at it; all of `w` at it. -/
def wIn (c : Dev nD) (l : Fin 2) (j : Fin 8) : sProp 𝕄 :=
  iprop((c : Thread nD τ).loc main_arg1 ↦[chunkSet j]{wShare l} wV m c)
def wOut (c : Dev nD) (l : Fin 2) (j : Fin 8) : sProp 𝕄 :=
  iprop((c : Thread nD τ).loc main_arg1 ↦[Finset.univ \ chunkSet j]{wShare l} wV m c)
def wAll (c : Dev nD) (l : Fin 2) : sProp 𝕄 :=
  iprop((c : Thread nD τ).loc main_arg1 ↦[Finset.univ]{wShare l} wV m c)

omit [FloatOps F] in
instance sndPts_storable (c b : Dev nD) (v) : BI.Storable (upEmb : UEmb _ 𝕄) (sndPts (F := F) c b v) := by unfold sndPts; infer_instance
omit [FloatOps F] in
instance rcvPts_storable (c b : Dev nD) (v) : BI.Storable (upEmb : UEmb _ 𝕄) (rcvPts (F := F) c b v) := by unfold rcvPts; infer_instance
omit [FloatOps F] in
instance bufPts_storable (c : Dev nD) (l) (v) : BI.Storable (upEmb : UEmb _ 𝕄) (bufPts (F := F) c l v) := by unfold bufPts; infer_instance
omit [FloatOps F] in
instance wIn_storable (c : Dev nD) (l) (j) : BI.Storable (upEmb : UEmb _ 𝕄) (wIn (F := F) m c l j) := by unfold wIn; infer_instance

/-! ## The schedule -/

/-- The chunk of `w` that device `c` loads at step `j`. -/
@[irreducible] def chkAt (c : Dev nD) (j : ℕ) : Fin 8 := ⟨(j + c.val / 4) % 8, Nat.mod_lt _ (by decide)⟩

/-- What each duty hands over. -/
def pay (c : Dev nD) (ro : Role) (r : ℕ) (d : Dev nD) : sProp 𝕄 :=
  match ro with
  | .bar => iprop(∃ v, rcvPts d c v)
  | .load l => iprop(bufPts c l (halfV m c (chkAt c (2 * r + l.val))) ∗ wIn m c l (chkAt c (2 * r + l.val)))
  | .send b => iprop(∃ v, sndPts c b v)
  | .recv s => rcvPts c s (sentV m s c)
  | .other => iprop(emp)

/-- The duties of a round of a cell. -/
def dut (c : Dev nD) (ro : Role) (r : ℕ) : Finset (Dev nD) :=
  match ro with
  | .bar => if r = 0 then Finset.univ.erase c else ∅
  | .load l => if r < 4 then {0} else ∅
  | .send b => if r = 0 ∧ b ≠ c then {0} else ∅
  | .recv s => if r = 0 ∧ s ≠ c then {0} else ∅
  | .other => ∅

/-- The amount of a duty. -/
def amt (ro : Role) : ℕ :=
  match ro with
  | .bar => 1
  | .load _ => NL
  | _ => N

theorem amt_pos : ∀ ro : Role, 0 < amt ro
  | .bar => Nat.one_pos
  | .load _ => NL_pos
  | .send _ => N_pos
  | .recv _ => N_pos
  | .other => N_pos

/-- The protocol as a round schedule. -/
def Rd : Rounds.Schedule (GSem nD τ sig) (Dev nD) 𝕄 where
  duties g r := if g.1.2 = .tc then dut g.1.1 (role g.2) r else ∅
  unitless _ := False
  amount g _ _ := amt (role g.2)
  payload g r d := pay m g.1.1 (role g.2) r d
  amount_pos g _ _ _ := amt_pos (role g.2)

instance Rd_payload_storable (g : GSem nD τ sig) (r : ℕ) (d : Dev nD) :
    BI.Storable (upEmb : UEmb _ 𝕄) ((Rd (F := F) m).payload g r d) := by
  show BI.Storable upEmb (pay m g.1.1 (role g.2) r d)
  unfold pay
  split <;> infer_instance

section Sched
variable (c : Dev nD)

theorem duties_bar : (Rd (F := F) m).duties (barCell c) 0 = Finset.univ.erase c := by
  show (if (Proc.tc : Proc τ) = .tc then dut c (role (.reg barS)) 0 else ∅) = _
  rw [if_pos rfl, role_bar]; rfl
theorem duties_load (l : Fin 2) {r : ℕ} (hr : r < 4) : (Rd (F := F) m).duties (loadCell c l) r = {0} := by
  show (if (Proc.tc : Proc τ) = .tc then dut c (role (.dma (loadS l))) r else ∅) = _
  rw [if_pos rfl, role_load]; exact if_pos hr
theorem duties_send {b : Dev nD} (hb : b ≠ c) : (Rd (F := F) m).duties (sendCell c b) 0 = {0} := by
  show (if (Proc.tc : Proc τ) = .tc then dut c (role (.dma (sendS b))) 0 else ∅) = _
  rw [if_pos rfl, role_send]; exact if_pos ⟨rfl, hb⟩
theorem duties_recv {s : Dev nD} (hs : s ≠ c) : (Rd (F := F) m).duties (recvCell c s) 0 = {0} := by
  show (if (Proc.tc : Proc τ) = .tc then dut c (role (.dma (recvS s))) 0 else ∅) = _
  rw [if_pos rfl, role_recv]; exact if_pos ⟨rfl, hs⟩
theorem later_bar : ∀ r, 1 ≤ r → (Rd (F := F) m).duties (barCell c) r = ∅ := fun r hr => by
  show (if (Proc.tc : Proc τ) = .tc then dut c (role (.reg barS)) r else ∅) = _
  rw [if_pos rfl, role_bar]; exact if_neg (by omega)
theorem later_load (l : Fin 2) : ∀ r, 4 ≤ r → (Rd (F := F) m).duties (loadCell c l) r = ∅ := fun r hr => by
  show (if (Proc.tc : Proc τ) = .tc then dut c (role (.dma (loadS l))) r else ∅) = _
  rw [if_pos rfl, role_load]; exact if_neg (by omega)
theorem later_send (b : Dev nD) : ∀ r, 1 ≤ r → (Rd (F := F) m).duties (sendCell c b) r = ∅ := fun r hr => by
  show (if (Proc.tc : Proc τ) = .tc then dut c (role (.dma (sendS b))) r else ∅) = _
  rw [if_pos rfl, role_send]; exact if_neg (by omega)
theorem later_recv (s : Dev nD) : ∀ r, 1 ≤ r → (Rd (F := F) m).duties (recvCell c s) r = ∅ := fun r hr => by
  show (if (Proc.tc : Proc τ) = .tc then dut c (role (.dma (recvS s))) r else ∅) = _
  rw [if_pos rfl, role_recv]; exact if_neg (by omega)
theorem own_send : ∀ r, 0 ≤ r → (Rd (F := F) m).duties (sendCell c c) r = ∅ := fun r hr => by
  show (if (Proc.tc : Proc τ) = .tc then dut c (role (.dma (sendS c))) r else ∅) = _
  rw [if_pos rfl, role_send]; exact if_neg (fun h => h.2 rfl)
theorem own_recv : ∀ r, 0 ≤ r → (Rd (F := F) m).duties (recvCell c c) r = ∅ := fun r hr => by
  show (if (Proc.tc : Proc τ) = .tc then dut c (role (.dma (recvS c))) r else ∅) = _
  rw [if_pos rfl, role_recv]; exact if_neg (fun h => h.2 rfl)

theorem amount_bar (r : ℕ) (d : Dev nD) : (Rd (F := F) m).amount (barCell c) r d = 1 := by
  show amt (role (.reg barS)) = 1; rw [role_bar]; rfl
theorem amount_load (l : Fin 2) (r : ℕ) (d : Dev nD) : (Rd (F := F) m).amount (loadCell c l) r d = NL := by
  show amt (role (.dma (loadS l))) = NL; rw [role_load]; rfl
theorem amount_send (b : Dev nD) (r : ℕ) (d : Dev nD) : (Rd (F := F) m).amount (sendCell c b) r d = N := by
  show amt (role (.dma (sendS b))) = N; rw [role_send]; rfl
theorem amount_recv (s : Dev nD) (r : ℕ) (d : Dev nD) : (Rd (F := F) m).amount (recvCell c s) r d = N := by
  show amt (role (.dma (recvS s))) = N; rw [role_recv]; rfl

theorem expect_bar : (Rd (F := F) m).expect (barCell c) 0 = 31 := by
  unfold Schedule.expect Schedule.amountOf
  rw [duties_bar, Finset.sum_congr rfl fun d _ => amount_bar m c 0 d, Finset.sum_const, Finset.card_erase_of_mem (Finset.mem_univ _),
    Finset.card_univ, smul_eq_mul]
  rfl
theorem expect_load (l : Fin 2) {r : ℕ} (hr : r < 4) : (Rd (F := F) m).expect (loadCell c l) r = NL := by
  unfold Schedule.expect Schedule.amountOf; rw [duties_load m c l hr, Finset.sum_singleton, amount_load]
theorem expect_send {b : Dev nD} (hb : b ≠ c) : (Rd (F := F) m).expect (sendCell c b) 0 = N := by
  unfold Schedule.expect Schedule.amountOf; rw [duties_send m c hb, Finset.sum_singleton, amount_send]
theorem expect_recv {s : Dev nD} (hs : s ≠ c) : (Rd (F := F) m).expect (recvCell c s) 0 = N := by
  unfold Schedule.expect Schedule.amountOf; rw [duties_recv m c hs, Finset.sum_singleton, amount_recv]

theorem payload_bar (r : ℕ) (d : Dev nD) : (Rd (F := F) m).payload (barCell c) r d = iprop(∃ v, rcvPts d c v) := by
  show pay m c (role (.reg barS)) r d = _; rw [role_bar]; rfl
theorem payload_load (l : Fin 2) (r : ℕ) (d : Dev nD) : (Rd (F := F) m).payload (loadCell c l) r d
    = iprop(bufPts c l (halfV m c (chkAt c (2 * r + l.val))) ∗ wIn m c l (chkAt c (2 * r + l.val))) := by
  show pay m c (role (.dma (loadS l))) r d = _; rw [role_load]; rfl
theorem payload_send (b : Dev nD) (r : ℕ) (d : Dev nD) : (Rd (F := F) m).payload (sendCell c b) r d = iprop(∃ v, sndPts c b v) := by
  show pay m c (role (.dma (sendS b))) r d = _; rw [role_send]; rfl
theorem payload_recv (s : Dev nD) (r : ℕ) (d : Dev nD) : (Rd (F := F) m).payload (recvCell c s) r d = rcvPts c s (sentV m s c) := by
  show pay m c (role (.dma (recvS s))) r d = _; rw [role_recv]; rfl

theorem rest_load (l : Fin 2) {r : ℕ} (hr : r < 4) : bigSep ((Rd (F := F) m).duties (loadCell c l) r \ ∅) (fun d => (Rd (F := F) m).payload (loadCell c l) r d)
    = iprop(bufPts c l (halfV m c (chkAt c (2 * r + l.val))) ∗ wIn m c l (chkAt c (2 * r + l.val))) := by
  rw [Finset.sdiff_empty, duties_load m c l hr, bigSep_singleton, payload_load]
theorem rest_send {b : Dev nD} (hb : b ≠ c) : bigSep ((Rd (F := F) m).duties (sendCell c b) 0 \ ∅) (fun d => (Rd (F := F) m).payload (sendCell c b) 0 d)
    = iprop(∃ v, sndPts c b v) := by
  rw [Finset.sdiff_empty, duties_send m c hb, bigSep_singleton, payload_send]
theorem rest_recv {s : Dev nD} (hs : s ≠ c) : bigSep ((Rd (F := F) m).duties (recvCell c s) 0 \ ∅) (fun d => (Rd (F := F) m).payload (recvCell c s) 0 d)
    = rcvPts c s (sentV m s c) := by
  rw [Finset.sdiff_empty, duties_recv m c hs, bigSep_singleton, payload_recv]
theorem rest_bar : bigSep ((Rd (F := F) m).duties (barCell c) 0 \ ∅) (fun d => (Rd (F := F) m).payload (barCell c) 0 d)
    = bigSep (Finset.univ.erase c) fun d => iprop(∃ v, rcvPts d c v) := by
  rw [Finset.sdiff_empty, duties_bar]; exact bigSep_congr fun d _ => payload_bar m c 0 d

end Sched

/-! ## What a device owes, and the levels -/

/-- What device `c` owes once `g` signals and `t` sends are done: a unit to the barrier cell of each device not yet
    signalled, a block's credit to its receive cell on each device not yet sent to. -/
def owe (c : Dev nD) (g t : ℕ) : CellTallies nD τ sig Unit :=
  (∑ d : Dev nD, if t ≤ stepOf c d ∧ d ≠ c then tallyAt (recvCell d c) () N else 0)
    + ∑ d : Dev nD, if g ≤ sigOf c d ∧ d ≠ c then tallyAt (barCell d) () 1 else 0

def L (g : GSem nD τ sig) : Finset Unit := if g.1.2 = .tc then {()} else ∅
/-- Barrier cells at 1, receive cells at 2, everything else at 0. -/
def lv (g : GSem nD τ sig) (_ : Unit) : ℕ := match role g.2 with | .bar => 1 | .recv _ => 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by unfold lv; rw [role_bar]
theorem lv_recv (c s : Dev nD) (u : Unit) : lv (recvCell c s) u = 2 := by unfold lv; rw [role_recv]

/-- A cell that is owed something is a receive cell, or a barrier cell if signals are still to come. -/
theorem owe_pos {c : Dev nD} {g t : ℕ} {x : GSem nD τ sig} {u : Unit} (h : 0 < owe c g t x u) :
    (∃ d, x = recvCell d c) ∨ (g < 31 ∧ ∃ d, x = barCell d) := by
  unfold owe at h
  rw [Pi.add_apply, Finsupp.add_apply, Finset.sum_apply, Finset.sum_apply, Finsupp.finset_sum_apply, Finsupp.finset_sum_apply] at h
  by_contra hn
  rw [not_or] at hn
  rw [Finset.sum_eq_zero, Finset.sum_eq_zero] at h
  · exact Nat.lt_irrefl 0 h
  · intro d _
    by_cases hd : g ≤ sigOf c d ∧ d ≠ c
    · rw [if_pos hd, tallyAt_apply, if_neg]
      rintro ⟨rfl, -⟩
      refine hn.2 ⟨?_, d, rfl⟩
      have h1 := sigOf_lt c d
      have h2 : sigOf c d ≠ 31 := fun e => hd.2 (sigOf_inj (e.trans (sigOf_self c).symm))
      omega
    · rw [if_neg hd]; rfl
  · intro d _
    by_cases hd : t ≤ stepOf c d ∧ d ≠ c
    · rw [if_pos hd, tallyAt_apply, if_neg]
      rintro ⟨rfl, -⟩
      exact hn.1 ⟨d, rfl⟩
    · rw [if_neg hd]; rfl

theorem owe_L {c : Dev nD} {g t : ℕ} {x : GSem nD τ sig} {u : Unit} (h : 0 < owe c g t x u) : u ∈ L x := by
  rcases owe_pos h with ⟨d, rfl⟩ | ⟨-, d, rfl⟩ <;> exact Finset.mem_singleton_self _

/-- A device may wait on any cell of level 0 whatever it owes. -/
theorem mayWait_low (c : Dev nD) (sm : SemLoc sig) (h0 : lv ((c : Thread nD τ), sm) () = 0) (g t : ℕ) :
    (levAts L lv : sProp 𝕄) ⊢ MayWait (c : Thread nD τ) sm () (owe c g t) :=
  MayOwe.of_cut (L := L) (lev := lv) 0 (fun p hp => by rw [Finset.mem_singleton.mp hp, L_tc]; exact Finset.mem_singleton_self _)
    (fun x u hx => owe_L hx)
    (fun p hp => by rw [Finset.mem_singleton.mp hp]; exact Nat.le_of_eq h0)
    (fun x u hx => by
      rcases owe_pos hx with ⟨d, rfl⟩ | ⟨-, d, rfl⟩
      · rw [lv_recv]; decide
      · rw [lv_bar]; decide)

/-- All signals done, a device may wait on its barrier cell. -/
theorem mayWait_bar (c : Dev nD) (t : ℕ) :
    (levAts L lv : sProp 𝕄) ⊢ MayWait (c : Thread nD τ) (.reg barS) () (owe c 31 t) :=
  MayOwe.of_cut (L := L) (lev := lv) 1 (fun p hp => by rw [Finset.mem_singleton.mp hp, L_tc]; exact Finset.mem_singleton_self _)
    (fun x u hx => owe_L hx)
    (fun p hp => by rw [Finset.mem_singleton.mp hp]; exact Nat.le_of_eq (lv_bar c ()))
    (fun x u hx => by
      rcases owe_pos hx with ⟨d, rfl⟩ | ⟨h, d, rfl⟩
      · rw [lv_recv]; decide
      · exact absurd h (by decide))

/-- A sum over a finite type whose terms change at one index only. -/
theorem sum_focus {A : Type} [AddCommMonoid A] {I : Type} [Fintype I] [DecidableEq I] (i : I) (f g : I → A) (h : ∀ j, j ≠ i → f j = g j) (hg : g i = 0) :
    (∑ j, f j) = (∑ j, g j) + f i := by
  rw [← Finset.add_sum_erase _ f (Finset.mem_univ i), ← Finset.add_sum_erase _ g (Finset.mem_univ i), hg, zero_add, add_comm]
  exact congrArg (· + f i) (Finset.sum_congr rfl fun j hj => h j (Finset.ne_of_mem_erase hj))

/-- The `g`-th signal pays a unit. -/
theorem owe_signal (c : Dev nD) {g : ℕ} (hg : g < 31) (t : ℕ) :
    owe c g t = owe c (g + 1) t + tallyAt (barCell (sigDev c g)) () 1 := by
  unfold owe
  have hs := sigOf_sigDev c (g := g) (by omega)
  rw [add_assoc, sum_focus (sigDev c g) (fun d => if g ≤ sigOf c d ∧ d ≠ c then (tallyAt (barCell d) () 1 : CellTallies nD τ sig Unit) else 0)
    (fun d => if g + 1 ≤ sigOf c d ∧ d ≠ c then tallyAt (barCell d) () 1 else 0)]
  · rw [if_pos ⟨by omega, sigDev_ne c hg⟩]
  · intro d hd
    have : sigOf c d ≠ g := fun e => hd (sigOf_inj (e.trans hs.symm))
    by_cases h : g ≤ sigOf c d ∧ d ≠ c
    · rw [if_pos h, if_pos ⟨by omega, h.2⟩]
    · rw [if_neg h, if_neg (fun h' => h ⟨by omega, h'.2⟩)]
  · exact if_neg (by omega)

/-- The send at step `t` pays a block's credit. -/
theorem owe_send (c : Dev nD) (g : ℕ) {t : ℕ} (ht : t < 32) (hne : blkOf c t ≠ c) :
    owe c g t = owe c g (t + 1) + tallyAt (recvCell (blkOf c t) c) () N := by
  unfold owe
  have hs := stepOf_blkOf c ht
  rw [add_right_comm, sum_focus (blkOf c t) (fun d => if t ≤ stepOf c d ∧ d ≠ c then (tallyAt (recvCell d c) () N : CellTallies nD τ sig Unit) else 0)
    (fun d => if t + 1 ≤ stepOf c d ∧ d ≠ c then tallyAt (recvCell d c) () N else 0)]
  · rw [if_pos ⟨by omega, hne⟩]
  · intro d hd
    have : stepOf c d ≠ t := fun e => hd (stepOf_inj (e.trans hs.symm))
    by_cases h : t ≤ stepOf c d ∧ d ≠ c
    · rw [if_pos h, if_pos ⟨by omega, h.2⟩]
    · rw [if_neg h, if_neg (fun h' => h ⟨by omega, h'.2⟩)]
  · exact if_neg (by omega)

/-- The step of its own block pays nothing. -/
theorem owe_own (c : Dev nD) (g : ℕ) {t : ℕ} (ht : t < 32) (he : blkOf c t = c) : owe c g t = owe c g (t + 1) := by
  unfold owe
  have hs := stepOf_blkOf c ht
  congr 1
  refine Finset.sum_congr rfl fun d _ => ?_
  by_cases hd : d = c
  · rw [if_neg (fun h => h.2 hd), if_neg (fun h => h.2 hd)]
  · have : stepOf c d ≠ t := fun e => hd ((stepOf_inj (e.trans hs.symm)).trans he)
    by_cases h : t ≤ stepOf c d ∧ d ≠ c
    · rw [if_pos h, if_pos ⟨by omega, h.2⟩]
    · rw [if_neg h, if_neg (fun h' => h ⟨by omega, h'.2⟩)]

/-- In the end nothing is owed. -/
theorem owe_done (c : Dev nD) : owe c 31 32 = 0 := by
  unfold owe
  rw [Finset.sum_eq_zero, Finset.sum_eq_zero, zero_add]
  · intro d _
    refine if_neg fun h => h.2 (sigOf_inj (c := c) ?_)
    have := sigOf_lt c d; rw [sigOf_self]; omega
  · intro d _
    exact if_neg fun h => by have := stepOf_lt c d; omega

end Cert.KernelIdealProof

end
-- ==== Proof.KernelIdealState.lean ====
/-
# The state of a device between two operations

What device `c` holds at any moment is a function of a few counters: how many signals it has sent (`g`), whether it has
passed the barrier (`bar`), how many chunks of `w` it has asked for and received (`p`, `q`), how many blocks it has
stored, sent and had back (`a`, `t`, `u`; `o` counts the blocks past the store of its own), how many blocks it has
received and put in the result (`d`, `e`).
-/
module

public import proofs.«01_k».proof.Proof.KernelIdealCells
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a stretch of device `c`'s program. -/
abbrev W (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The cells of a device: its barrier cell, its load cells, its send cells, its receive cells. -/
abbrev CellIx : Type := Option (Fin 2 ⊕ (Dev nD ⊕ Dev nD))
def cellAt (c : Dev nD) : CellIx → GSem nD τ sig
  | none => barCell c
  | some (.inl l) => loadCell c l
  | some (.inr (.inl b)) => sendCell c b
  | some (.inr (.inr s)) => recvCell c s

variable (m : (ℓ : Loc nD τ sig) → Buf (Elt F) ℓ)

/-- Every cell of the mesh has its invariant, and has reached round 0. -/
def Recs (K : Dev nD × CellIx → ℕ) : sProp 𝕄 :=
  bigSep Finset.univ fun x : Dev nD × CellIx => iprop(cellInv ER (Rd m) (K x) (cellAt x.1 x.2) ∗ reached ER (cellAt x.1 x.2) 0)

instance Recs_persistent (K : Dev nD × CellIx → ℕ) : BI.Persistent (Recs (F := F) m K) := by unfold Recs; infer_instance

theorem recs_at (K : Dev nD × CellIx → ℕ) (c : Dev nD) (x : CellIx) :
    Recs (F := F) m K ⊢ iprop(cellInv ER (Rd m) (K (c, x)) (cellAt c x) ∗ reached ER (cellAt c x) 0) :=
  bigSep_elim (i := (c, x)) (Finset.mem_univ _)

/-- The part of the state that never changes. -/
def Base (K : Dev nD × CellIx → ℕ) (c : Dev nD) : sProp 𝕄 :=
  iprop(Recs m K ∗ levAts L lv
    ∗ ((c : Thread nD τ).loc cc0_stg0_0 ↦{fullShare} xV m c)
    ∗ ((c : Thread nD τ).loc cc0_stg1_0 ↦{fullShare} sxV m c)
    ∗ ((c : Thread nD τ).loc cc0_stg2_0 ↦{fullShare} swV m c))

/-- Which row blocks of the result are written. -/
def filled (c : Dev nD) (o e : ℕ) (s : Dev nD) : Prop := if s = c then stepOf c c < o else rcvOf c s < e

/-- The result: the row blocks written so far are right. -/
def Out (c : Dev nD) (o e : ℕ) : sProp 𝕄 :=
  iprop(∃ f : Buf (Elt F) ((c : Thread nD τ).loc cc0_stg3_0),
    ⌜∀ s, filled c o e s → (oM.access (rowsR s)).read (Elt F) f = rowsV m c s⌝ ∗ ((c : Thread nD τ).loc cc0_stg3_0 ↦{fullShare} f))

/-- The debts. -/
def Owe (c : Dev nD) (g t : ℕ) : sProp 𝕄 := iprop(∃ X, owes (c : Thread nD τ) (owe c g t) X)

/-- For each device not yet signalled, the landing slot that it will write and the right to signal it. -/
def Sig (c : Dev nD) (g : ℕ) : sProp 𝕄 :=
  bigSep Finset.univ fun d : Dev nD => if g ≤ sigOf c d ∧ d ≠ c then iprop((∃ v, rcvPts c d v) ∗ dutyTok ER (barCell d) 0 c) else iprop(emp)

/-- Before the barrier the right to wait there; after it, for each block not yet sent, the landing slot on its device. -/
def Bar (c : Dev nD) (bar : Bool) (t : ℕ) : sProp 𝕄 :=
  match bar with
  | false => iprop(atPos ER (barCell c) 0 ∅ 0 ∗ cred (tallyAt (barCell c) () 31))
  | true => iprop(semVal (barCell c) 0 ∗ bigSep Finset.univ fun b : Dev nD => if t ≤ stepOf c b ∧ b ≠ c then iprop(∃ v, rcvPts b c v) else iprop(emp))

/-- Half `l` of the double buffer, `P` loads into it started and `Q` completed. -/
def Ld (c : Dev nD) (l : Fin 2) (P Q : ℕ) : sProp 𝕄 :=
  if Q < P then
    iprop(cred (tallyAt (loadCell c l) () NL) ∗ wOut m c l (chkAt c (2 * Q + l.val)) ∗ atPos ER (loadCell c l) Q ∅ 0
      ∗ bigSep (Finset.Ico (Q + 1) 4) fun r => dutyTok ER (loadCell c l) r 0)
  else
    iprop((∃ v, ⌜1 ≤ Q → v = halfV m c (chkAt c (2 * (Q - 1) + l.val))⌝ ∗ bufPts c l v) ∗ wAll m c l ∗ atPos ER (loadCell c l) Q ∅ 0
      ∗ reached ER (loadCell c l) Q ∗ bigSep (Finset.Ico Q 4) fun r => dutyTok ER (loadCell c l) r 0)

/-- How many of the first `p` chunks go to half `l`. -/
def cnt (l : Fin 2) (p : ℕ) : ℕ := (p + 1 - l.val) / 2

def Lds (c : Dev nD) (p q : ℕ) : sProp 𝕄 := bigSep Finset.univ fun l : Fin 2 => Ld m c l (cnt l p) (cnt l q)

/-- Block `b` of the product: `a` blocks stored in the send buffer, `t` sent, `u` back. -/
def Bk (c : Dev nD) (a t u : ℕ) (b : Dev nD) : sProp 𝕄 :=
  if b = c then iprop((∃ v, sndPts c c v) ∗ atPos ER (sendCell c c) 0 ∅ 0)
  else if stepOf c b < u then iprop((∃ v, sndPts c b v) ∗ semVal (sendCell c b) 0)
  else if stepOf c b < t then iprop(cred (tallyAt (sendCell c b) () N) ∗ atPos ER (sendCell c b) 0 ∅ 0)
  else iprop((∃ v, ⌜stepOf c b < a → v = sentV m c b⌝ ∗ sndPts c b v)
    ∗ dutyTok ER (sendCell c b) 0 0 ∗ dutyTok ER (recvCell b c) 0 0 ∗ atPos ER (sendCell c b) 0 ∅ 0)

def Blk (c : Dev nD) (a t u : ℕ) : sProp 𝕄 := bigSep Finset.univ fun b : Dev nD => Bk m c a t u b

/-- The block of sender `s`, `d` blocks received. -/
def Rc (c : Dev nD) (d : ℕ) (s : Dev nD) : sProp 𝕄 :=
  if s = c then iprop((∃ v, rcvPts c c v) ∗ atPos ER (recvCell c c) 0 ∅ 0)
  else if rcvOf c s < d then iprop(rcvPts c s (sentV m s c) ∗ semVal (recvCell c s) 0)
  else iprop(cred (tallyAt (recvCell c s) () N) ∗ atPos ER (recvCell c s) 0 ∅ 0)

def Rcv (c : Dev nD) (d : ℕ) : sProp 𝕄 := bigSep Finset.univ fun s : Dev nD => Rc m c d s

/-- The whole state of device `c`. -/
def ST (K : Dev nD × CellIx → ℕ) (c : Dev nD) (g : ℕ) (bar : Bool) (p q o a t u d e : ℕ) : sProp 𝕄 :=
  iprop(Base m K c ∗ Out m c o e ∗ Owe c g t ∗ Sig c g ∗ Bar c bar t ∗ Lds m c p q ∗ Blk m c a t u ∗ Rcv m c d)

/-! ## Families that change at one index -/

omit [FloatOps F] in
/-- A family of assertions changes at index `i` only: take that one out, put the new one back. -/
theorem focus {I : Type} [Fintype I] [DecidableEq I] (i : I) {Φ Ψ : I → sProp 𝕄} (h : ∀ j, j ≠ i → Φ j = Ψ j) :
    (bigSep Finset.univ Φ : sProp 𝕄) ⊢ iprop(Φ i ∗ (Ψ i -∗ bigSep Finset.univ Ψ)) := by
  rw [bigSep_univ_at Φ i, bigSep_univ_at Ψ i, bigSep_congr fun j hj => h j (Finset.ne_of_mem_erase hj)]
  iintro ⟨H, HR⟩
  isplitl [H]; · iexact H
  iintro H'
  isplitl [H']; · iexact H'
  iexact HR

theorem lds_focus (c : Dev nD) (l : Fin 2) {p q p' q' : ℕ} (h : ∀ k : Fin 2, k ≠ l → cnt k p = cnt k p' ∧ cnt k q = cnt k q') :
    (Lds m c p q : sProp 𝕄) ⊢ iprop(Ld m c l (cnt l p) (cnt l q) ∗ (Ld m c l (cnt l p') (cnt l q') -∗ Lds m c p' q')) :=
  focus (Φ := fun k => Ld m c k (cnt k p) (cnt k q)) (Ψ := fun k => Ld m c k (cnt k p') (cnt k q')) l
    fun k hk => by rw [(h k hk).1, (h k hk).2]

/-- Blocks of other steps are where they were. -/
theorem blk_focus (c b : Dev nD) {a t u a' t' u' : ℕ}
    (h : ∀ n, n ≠ stepOf c b → (n < a ↔ n < a') ∧ (n < t ↔ n < t') ∧ (n < u ↔ n < u')) :
    (Blk m c a t u : sProp 𝕄) ⊢ iprop(Bk m c a t u b ∗ (Bk m c a' t' u' b -∗ Blk m c a' t' u')) :=
  focus b fun k hk => by
    have hs := h (stepOf c k) fun e => hk (stepOf_inj e)
    show Bk m c a t u k = Bk m c a' t' u' k
    unfold Bk
    simp only [hs.1, hs.2.1, hs.2.2]

theorem rcv_focus (c s : Dev nD) {d d' : ℕ} (h : ∀ n, n ≠ rcvOf c s → (n < d ↔ n < d')) :
    (Rcv m c d : sProp 𝕄) ⊢ iprop(Rc m c d s ∗ (Rc m c d' s -∗ Rcv m c d')) :=
  focus s fun k hk => by
    have hs := h (rcvOf c k) fun e => hk (rcvOf_inj e)
    show Rc m c d k = Rc m c d' k
    unfold Rc
    simp only [hs]

/-! ## Running one statement -/

omit [FloatOps F] in
theorem seqI [FloatOps F] {c : Dev nD} {α β : Type} {P : sProp 𝕄} {p : Prog (TpuEff nD τ sig (Elt F) Λ₀ .tc) α}
    {k : α → Prog (TpuEff nD τ sig (Elt F) Λ₀ .tc) β} {Q : β → sProp 𝕄}
    (h : P ⊢ W c p fun v => W c (k v) Q) : P ⊢ W c (p >>= k) Q := by
  unfold W; rw [wp_bind]; exact h

theorem retI {c : Dev nD} {α : Type} {P : sProp 𝕄} {v : α} {Q : α → sProp 𝕄} (h : P ⊢ Q v) :
    P ⊢ W c (.ret v) Q := by
  unfold W; rw [wp_ret]; exact h.trans (fupd_intro (PROP := sProp 𝕄))

theorem pureI {c : Dev nD} {α : Type} {P : sProp 𝕄} {v : α} {Q : α → sProp 𝕄} (h : P ⊢ Q v) :
    P ⊢ W c (pure v) Q := retI h

/-! ## Blocks by step -/

theorem chk_blkOf (c : Dev nD) {j : ℕ} (hj : j < 8) (i : Fin 4) : chk (blkOf c (4 * j + i.val)) = chkAt c j := by
  have h1 : c.val < 32 := c.isLt
  have h2 := i.isLt
  refine Fin.ext ?_
  unfold chk blkOf chkAt; dsimp only; omega
theorem qtr_blkOf (c : Dev nD) {j : ℕ} (hj : j < 8) (i : Fin 4) : qtr (blkOf c (4 * j + i.val)) = i := by
  have h1 : c.val < 32 := c.isLt
  have h2 := i.isLt
  refine Fin.ext ?_
  unfold qtr blkOf; dsimp only; omega
theorem sentV_blkOf (c : Dev nD) {j : ℕ} (hj : j < 8) (i : Fin 4) : sentV m c (blkOf c (4 * j + i.val)) = sentAt m c (chkAt c j) i := by
  unfold sentV; rw [chk_blkOf c hj, qtr_blkOf c hj]
theorem blockV_blkOf (c : Dev nD) {j : ℕ} (hj : j < 8) (i : Fin 4) : blockV m c (blkOf c (4 * j + i.val)) = blockAt m c (chkAt c j) i := by
  unfold blockV; rw [chk_blkOf c hj, qtr_blkOf c hj]

/-! ## Semaphore arrays and views at an index -/

theorem one_inb {n : ℕ} (b : Fin n) : ∀ a, (![b.val] : Fin 1 → Nat) a + S1.size a ≤ (⟨1, ![n]⟩ : Shape).size a := by
  have h := b.isLt
  intro a
  match a with
  | 0 => show b.val + 1 ≤ n; omega

theorem load_sem (l : Fin 2) {off : Fin 1 → ℕ} (h : off = ![l.val]) (inb) :
    ((cc0_scratch3.slice (Rect.unit (s := S2) off S1.size inb)).squeeze S_ squeezes_S1_S_).sem = loadS l := by
  subst h; revert l; decide +kernel
theorem send_sem (b : Dev nD) {off : Fin 1 → ℕ} (h : off = ![b.val]) (inb) :
    ((cc0_scratch4.slice (Rect.unit (s := S32) off S1.size inb)).squeeze S_ squeezes_S1_S_).sem = sendS b := by
  subst h; revert b; decide +kernel
theorem recv_sem (b : Dev nD) {off : Fin 1 → ℕ} (h : off = ![b.val]) (inb) :
    ((cc0_scratch5.slice (Rect.unit (s := S32) off S1.size inb)).squeeze S_ squeezes_S1_S_).sem = recvS b := by
  subst h; revert b; decide +kernel

/-- A view read through its reshape determines what it reads. -/
theorem read_eq_of_reshape {sp : Space} {s s' : Shape} {e : EltTy} (v : View sig .tc sp s e) (h : s'.numel = s.numel)
    (hd : s.ShapeCasts s') (hu : s'.ShapeCasts s) (f : v.ty.Contents (Elt F)) (w : s'.Idx → Elt F e)
    (hr : (v.reshape s' h).read (Elt F) f = w) : v.read (Elt F) f = shapeCast s w hu := by
  subst hr
  exact (shapeCast_shapeCast (v.read (Elt F) f) hd hu).symm

end Cert.KernelIdealProof

end
-- ==== Proof.KernelIdealSteps.lean ====
/-
# One statement of the body at a time

Each lemma takes a device's state before one statement of the kernel to its state after it.
-/
module

public import proofs.«01_k».proof.Proof.KernelIdealState
public import Idealize.ShloMosaic.Lib.Ring
public import Idealize.SL.BI.BigOpNat

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Steps
variable (K : Dev nD × CellIx → ℕ) (c : Dev nD)
variable {g p q o a t u d e : ℕ} {bar : Bool}

/-! ## Signals and the barrier -/

theorem sig_take (hg : g < 31) :
    (Sig c g : sProp 𝕄) ⊢ iprop((∃ v, rcvPts c (sigDev c g) v) ∗ dutyTok ER (barCell (sigDev c g)) 0 c ∗ Sig c (g + 1)) := by
  have hs := sigOf_sigDev c (g := g) (by omega)
  unfold Sig
  iintro H
  ihave H := (focus (sigDev c g) (Φ := fun d : Dev nD => if g ≤ sigOf c d ∧ d ≠ c then iprop((∃ v, rcvPts (F := F) c d v) ∗ dutyTok ER (barCell d) 0 c) else iprop(emp))
    (Ψ := fun d : Dev nD => if g + 1 ≤ sigOf c d ∧ d ≠ c then iprop((∃ v, rcvPts c d v) ∗ dutyTok ER (barCell d) 0 c) else iprop(emp))
    (fun j hj => by
      have : sigOf c j ≠ g := fun e => hj (sigOf_inj (e.trans hs.symm))
      exact if_congr (and_congr_left fun _ => ⟨fun _ => by omega, fun _ => by omega⟩) rfl rfl)) $$ H
  rw [if_pos ⟨by omega, sigDev_ne c hg⟩, if_neg (fun h => by omega)]
  icases H with ⟨⟨Hv, Ht⟩, Hk⟩
  isplitl [Hv]; · iexact Hv
  isplitl [Ht]; · iexact Ht
  iapply Hk; iempintro

theorem step_signal (hg : g < 31) {dv : Dev nD} (hdv : dv = sigDev c g) {Q : PUnit → sProp 𝕄}
    (h : ST m K c (g + 1) bar p q o a t u d e ⊢ Q ⟨⟩) :
    ST m K c g bar p q o a t u d e ⊢ W c (semSignalWord dv barS 1#32) Q := by
  subst hdv
  unfold ST Base Owe
  iintro ⟨⟨#HR, #HL, HB⟩, HO, ⟨%X, Hw⟩, Hs, Hr⟩
  ihave Hc := (recs_at m K (sigDev c g) none) $$ HR
  icases Hc with ⟨#HI, #Hr0⟩
  ihave Hs := (sig_take c hg) $$ Hs
  icases Hs with ⟨Hv, Ht, Hs⟩
  unfold semSignalWord
  iapply (Rounds.wp_signal 𝒱₀ ER (Rd m) (c : Thread nD τ) none (dst := (sigDev c g : Thread nD τ)) (κ := K (sigDev c g, none))
      (d := c) (by rw [duties_bar]; exact Finset.mem_erase.mpr ⟨(sigDev_ne c hg).symm, Finset.mem_univ _⟩)
      ((amount_bar m (sigDev c g) 0 c).trans (by decide)) () (owe c (g + 1) t) (owe_signal c hg t)) $$ [Hw Ht Hv]
  · isplitr; · iexact HI
    isplitl [Hw]; · iexact Hw
    isplitl [Ht]; · iexact Ht
    isplitl [Hv]; · rw [payload_bar]; iexact Hv
    iexact Hr0
  iintro Hw
  iapply (retI h)
  unfold ST Base Owe
  iframe # ∗
  iexists X; iexact Hw

theorem peers_start : (bigSep (Finset.univ.erase c) fun d : Dev nD => iprop(∃ v, rcvPts (F := F) d c v) : sProp 𝕄)
    ⊢ bigSep Finset.univ fun b : Dev nD => if 0 ≤ stepOf c b ∧ b ≠ c then iprop(∃ v, rcvPts b c v) else iprop(emp) := by
  rw [bigSep_univ_at _ c, if_neg (fun h => h.2 rfl),
    bigSep_congr (s := Finset.univ.erase c) (Φ := fun b : Dev nD => if 0 ≤ stepOf c b ∧ b ≠ c then iprop(∃ v, rcvPts (F := F) b c v) else iprop(emp))
      (Ψ := fun d : Dev nD => iprop(∃ v, rcvPts (F := F) d c v)) fun b hb => if_pos ⟨Nat.zero_le _, Finset.ne_of_mem_erase hb⟩]
  iintro H
  isplitr; · iempintro
  iexact H

theorem step_bar {Q : PUnit → sProp 𝕄} (h : ST m K c 31 true p q o a 0 u d e ⊢ Q ⟨⟩) :
    ST m K c 31 false p q o a 0 u d e ⊢ W c (semWaitWord barS 31#32) Q := by
  unfold ST Base Owe Bar
  iintro ⟨⟨#HR, #HL, HB⟩, HO, ⟨%X, Hw⟩, Hs, ⟨Hat, Hc⟩, Hr⟩
  ihave HI := (recs_at m K c none) $$ HR
  icases HI with ⟨#HI, #Hr0⟩
  unfold semWaitWord
  iapply (Rounds.wp_wait_rest_token 𝒱₀ ER (Rd m) (c : Thread nD τ) none (κ := K (c, none))
      (wpE_semWait_eq 𝒱₀ (c : Thread nD τ) none Set.univ) (Set.mem_univ _) () (O := owe c 31 0) (W := X) (R := 0) (m := 0) (T := ∅)
      (by rw [expect_bar]; decide)) $$ [Hc Hw Hat]
  · isplitr; · iexact HI
    isplitl [Hc]; · iexact Hc
    isplitl [Hw]; · iexact Hw
    isplitr; · iapply (mayWait_bar c 0); iexact HL
    iexact Hat
  iintro ⟨Hw, Hat, -, Hpay⟩
  ihave Hp := (Entails.of_eq (rest_bar m c)) $$ Hpay
  ihave Hp := (peers_start c) $$ Hp
  imod (Rounds.cell_close ER (Rd m) (Set.mem_univ (K (c, none))) (fun h => h) (R := 0 + 1) (later_bar m c)) $$ [Hat] with Hz
  · isplitr; · iexact HI
    iexact Hat
  iapply (retI h)
  unfold ST Base Owe Bar
  iframe # ∗
  isplitl [Hw]; · iexists _; iexact Hw
  isplitl [Hz]; · iexact Hz
  iexact Hp

theorem bar_take (ht : t < 32) (hne : blkOf c t ≠ c) :
    (Bar c true t : sProp 𝕄) ⊢ iprop((∃ v, rcvPts (blkOf c t) c v) ∗ Bar c true (t + 1)) := by
  have hs := stepOf_blkOf c ht
  unfold Bar
  iintro ⟨Hz, H⟩
  ihave H := (focus (blkOf c t) (Φ := fun b : Dev nD => if t ≤ stepOf c b ∧ b ≠ c then iprop(∃ v, rcvPts (F := F) b c v) else iprop(emp))
    (Ψ := fun b : Dev nD => if t + 1 ≤ stepOf c b ∧ b ≠ c then iprop(∃ v, rcvPts b c v) else iprop(emp))
    (fun j hj => by
      have : stepOf c j ≠ t := fun e => hj (stepOf_inj (e.trans hs.symm))
      exact if_congr (and_congr_left fun _ => ⟨fun _ => by omega, fun _ => by omega⟩) rfl rfl)) $$ H
  rw [if_pos ⟨by omega, hne⟩, if_neg (fun h => by omega)]
  icases H with ⟨Hv, Hk⟩
  isplitl [Hv]; · iexact Hv
  isplitl [Hz]; · iexact Hz
  iapply Hk; iempintro

theorem bar_own (ht : t < 32) (he : blkOf c t = c) : (Bar c true t : sProp 𝕄) ⊢ Bar c true (t + 1) := by
  have hs := stepOf_blkOf c ht
  unfold Bar
  refine Entails.of_eq (congrArg (fun Z => iprop(semVal (barCell c) 0 ∗ Z)) (bigSep_congr fun j _ => ?_))
  refine if_congr ⟨fun h' => ⟨?_, h'.2⟩, fun h' => ⟨by omega, h'.2⟩⟩ rfl rfl
  have : stepOf c j ≠ t := fun e => h'.2 ((stepOf_inj (e.trans hs.symm)).trans he)
  omega

/-! ## The inputs -/

theorem step_scaleX {h1 : (Rect.unit (s := S1) ![0] S1.size inb_S1_S1_0).shape.numel = 1} {hp : EltTy.packing (.f32) = 1} {Q : F .f32 → sProp 𝕄}
    (h : ST m K c g bar p q o a t u d e ⊢ Q ((sxM.access (Rect.unit (s := S1) ![0] S1.size inb_S1_S1_0)).read (Elt F) (sxV m c) (Shape.Idx.first (h1.symm ▸ Nat.one_pos)))) :
    ST m K c g bar p q o a t u d e ⊢ W c (smemLoad sxM (Rect.unit (s := S1) ![0] S1.size inb_S1_S1_0) h1 hp) Q := by
  unfold ST Base
  iintro ⟨⟨#HR, #HL, Hx, Hsx, Hsw⟩, Hr⟩
  unfold smemLoad
  iapply (wp_smemLoadElt 𝒱₀ (c : Thread nD τ) none Set.univ (m := sxM) (S := Finset.univ) (Finset.subset_univ _)) $$ [Hsx]
  · iexact Hsx
  iintro Hsx
  iapply (retI h)
  unfold ST Base
  iframe # ∗

theorem step_scaleW {h1 : (Rect.unit (s := S1) ![0] S1.size inb_S1_S1_0).shape.numel = 1} {hp : EltTy.packing (.f32) = 1} {Q : F .f32 → sProp 𝕄}
    (h : ST m K c g bar p q o a t u d e ⊢ Q ((swM.access (Rect.unit (s := S1) ![0] S1.size inb_S1_S1_0)).read (Elt F) (swV m c) (Shape.Idx.first (h1.symm ▸ Nat.one_pos)))) :
    ST m K c g bar p q o a t u d e ⊢ W c (smemLoad swM (Rect.unit (s := S1) ![0] S1.size inb_S1_S1_0) h1 hp) Q := by
  unfold ST Base
  iintro ⟨⟨#HR, #HL, Hx, Hsx, Hsw⟩, Hr⟩
  unfold smemLoad
  iapply (wp_smemLoadElt 𝒱₀ (c : Thread nD τ) none Set.univ (m := swM) (S := Finset.univ) (Finset.subset_univ _)) $$ [Hsw]
  · iexact Hsw
  iintro Hsw
  iapply (retI h)
  unfold ST Base
  iframe # ∗

theorem zero2 : (![0, 0] : Fin 2 → Nat) = fun _ => 0 := funext fun a => by fin_cases a <;> rfl

theorem step_loadX {hl : xM.view.LoadsAt (Rect.unit (s := S128x4096) ![0, 0] S128x4096.size inb_S128x4096_S128x4096_0_0).toLoadRect} {Q : Vec F S128x4096 .f32 → sProp 𝕄}
    (h : ST m K c g bar p q o a t u d e ⊢ Q (xV m c)) :
    ST m K c g bar p q o a t u d e ⊢ W c (Prog.lift (.load xM (Rect.unit (s := S128x4096) ![0, 0] S128x4096.size inb_S128x4096_S128x4096_0_0).toLoadRect hl)) Q := by
  unfold ST Base
  iintro ⟨⟨#HR, #HL, Hx, Hsx, Hsw⟩, Hr⟩
  unfold Prog.lift
  iapply (wp_load 𝒱₀ (c : Thread nD τ) none Set.univ (m := xM) (S := Finset.univ) (Finset.subset_univ _)) $$ Hx
  iintro Hx
  rw [show xM.view.readAt (Elt F) (Rect.unit (s := S128x4096) ![0, 0] S128x4096.size inb_S128x4096_S128x4096_0_0).toLoadRect (xV m c) = xV m c from
    Memref.readAt_unit_zero (Elt F) cc0_stg0_0 zero2 _ _]
  iapply (retI h)
  unfold ST Base
  iframe # ∗

/-! ## Loading the chunks of `w` -/

theorem cnt_start (l : Fin 2) (r : ℕ) : cnt l (2 * r + l.val) = r ∧ cnt l (2 * r + l.val + 1) = r + 1 := by
  have := l.isLt
  unfold cnt; omega
theorem cnt_other {k l : Fin 2} (h : k ≠ l) (r : ℕ) : cnt k (2 * r + l.val) = cnt k (2 * r + l.val + 1) := by
  have h1 := l.isLt
  have h2 := k.isLt
  have h3 : k.val ≠ l.val := fun e => h (Fin.ext e)
  unfold cnt; omega

theorem half_credit {off : Fin 3 → ℕ} {inb} :
    ((bufM.slice (Rect.unit (s := S2x4096x256) off S1x4096x256.size inb) (fun _ => rfl)).squeeze S4096x256 squeezes_S1x4096x256_S4096x256).view.dmaCredit = NL := by
  unfold NL; rfl
theorem snd_credit {off : Fin 3 → ℕ} {inb} :
    ((sndM.slice (Rect.unit (s := S32x128x64) off S1x128x64.size inb) (fun _ => rfl)).squeeze S128x64 squeezes_S1x128x64_S128x64).view.dmaCredit = N := by
  unfold N; rfl
theorem rcv_credit {off : Fin 3 → ℕ} {inb} :
    ((rcvM.slice (Rect.unit (s := S32x128x64) off S1x128x64.size inb) (fun _ => rfl)).squeeze S128x64 squeezes_S1x128x64_S128x64).view.dmaCredit = N := by
  unfold N; rfl

/-- Half `l` of the double buffer, as a matrix; chunk `j` of `w`. -/
abbrev halfSq (l : Fin 2) : Memref sig .tc .vmem S4096x256 .f32 := (bufM.slice (halfR l) (fun _ => rfl)).squeeze S4096x256 squeezes_S1x4096x256_S4096x256
abbrev wChunk (j : Fin 8) : Memref sig .tc .hbm S4096x256 .f32 := wM.slice (chunkR j) (fun _ => rfl)

theorem halfSq_set (l : Fin 2) : (halfSq l).view.set = (bufM.access (halfR l)).set := View.set_reshape _ _

/-- What a load into half `l` hands over when it lands. -/
theorem landed_half (l : Fin 2) (j : Fin 8) (f : Buf (Elt F) ((bufM.access (halfR l)).loc (c : Thread nD τ))) :
    iprop(((bufM.access (halfR l)).loc (c : Thread nD τ) ↦[(bufM.access (halfR l)).set]{fullShare}
          ((halfSq l).view.write (Elt F) f ((wChunk j).view.read (Elt F) (wV m c)) Finset.univ))
        ∗ wIn m c l j)
      ⊢ iprop(bufPts c l (halfV m c j) ∗ wIn m c l j) := by
  have hr := read_eq_of_reshape (bufM.access (halfR l)) squeezes_S1x4096x256_S4096x256.numel_eq shapeCasts_S1x4096x256_S4096x256 casts_up
    ((halfSq l).view.write (Elt F) f ((wChunk j).view.read (Elt F) (wV m c)) Finset.univ) ((wChunk j).view.read (Elt F) (wV m c)) (View.read_write_univ ..)
  unfold bufPts
  iintro ⟨Hd, Hw⟩
  isplitr [Hw]
  · iexists _
    isplitr
    · ipureintro; exact hr
    iexact Hd
  iexact Hw

theorem wp_load_chunk (l : Fin 2) {r : ℕ} (hr : r < 4) (j : Fin 8) {hsrc : (wChunk j).view.WordExact} {hdst : (halfSq l).view.WordExact}
    {hsem : DmaTarget.Typed .hbm (.dma (loadS l)) (.here (halfSq l) : DmaTarget nD τ sig .tc .vmem S4096x256 .f32)} {α : Type} {Q : α → sProp 𝕄} {k : PUnit → Prog (TpuEff nD τ sig (Elt F) Λ₀ .tc) α}
    (fs : Buf (Elt F) ((wChunk j).view.loc (c : Thread nD τ))) (f : Buf (Elt F) ((halfSq l).view.loc (c : Thread nD τ)))
    (hpay : iprop(((halfSq l).view.loc (c : Thread nD τ) ↦[(halfSq l).view.set]{fullShare} ((halfSq l).view.write (Elt F) f ((wChunk j).view.read (Elt F) fs) Finset.univ))
        ∗ ((wChunk j).view.loc (c : Thread nD τ) ↦[(wChunk j).view.set]{wShare l} fs)) ⊢ (Rd (F := F) m).payload (loadCell c l) r 0) :
    iprop(cellInv ER (Rd m) (K (c, some (.inl l))) (loadCell c l)
        ∗ ((wChunk j).view.loc (c : Thread nD τ) ↦[(wChunk j).view.set]{wShare l} fs)
        ∗ ((halfSq l).view.loc (c : Thread nD τ) ↦[(halfSq l).view.set]{fullShare} f)
        ∗ dutyTok ER (loadCell c l) r 0 ∗ reached ER (loadCell c l) r)
      ⊢ iprop((cred (tallyAt (loadCell c l) () NL) -∗ W c (k ⟨⟩) Q)
          -∗ W c (.op (.enqueueDma (wChunk j) (.here (halfSq l)) (.dma (loadS l)) hsrc hdst hsem) k) Q) :=
  Rounds.wp_copy_pointsTo (src := wChunk j) (dst := halfSq l) 𝒱₀ ER (Rd m) (c : Thread nD τ) none (defs := defs₀ (F := F)) (hsrc := hsrc) (hdst := hdst)
    (hsem := hsem) (k := k) (Q := Q) (Es := Set.univ) (κ := K (c, some (.inl l))) (r := r) (d := 0) (q := wShare l) (fs := fs) (fd := f)
    (by rw [duties_load m c l hr]; exact Finset.mem_singleton_self _) () NL half_credit (amount_load m c l r 0) hpay

theorem wp_load_w (l : Fin 2) {r : ℕ} (hr : r < 4) (j : Fin 8) (hj : chkAt c (2 * r + l.val) = j) {hsrc : (wChunk j).view.WordExact} {hdst : (halfSq l).view.WordExact}
    {hsem : DmaTarget.Typed .hbm (.dma (loadS l)) (.here (halfSq l) : DmaTarget nD τ sig .tc .vmem S4096x256 .f32)} {α : Type} {Q : α → sProp 𝕄} {k : PUnit → Prog (TpuEff nD τ sig (Elt F) Λ₀ .tc) α}
    (f : Buf (Elt F) ((bufM.access (halfR l)).loc (c : Thread nD τ))) :
    iprop(cellInv ER (Rd m) (K (c, some (.inl l))) (loadCell c l) ∗ wIn m c l j
        ∗ ((bufM.access (halfR l)).loc (c : Thread nD τ) ↦[(bufM.access (halfR l)).set]{fullShare} f)
        ∗ dutyTok ER (loadCell c l) r 0 ∗ reached ER (loadCell c l) r)
      ⊢ iprop((cred (tallyAt (loadCell c l) () NL) -∗ W c (k ⟨⟩) Q)
          -∗ W c (.op (.enqueueDma (wChunk j) (.here (halfSq l)) (.dma (loadS l)) hsrc hdst hsem) k) Q) := by
  have fs : { x : Buf (Elt F) ((wChunk j).view.loc (c : Thread nD τ)) // x = wV m c } := ⟨wV m c, rfl⟩
  have h := wp_load_chunk m K c l hr j (hsrc := hsrc) (hdst := hdst) (hsem := hsem) (Q := Q) (k := k) fs.1 f (by
    rw [payload_load, halfSq_set, hj, fs.2]; exact landed_half m c l j f)
  rw [halfSq_set, fs.2] at h
  exact h

theorem step_enq (l : Fin 2) {r : ℕ} (hr : r < 4) (hp : p = 2 * r + l.val) (hq : cnt l q = r)
    {off : Fin 2 → ℕ} {inb} (ho : off = ![0, 256 * (chkAt c p).val]) {off2 : Fin 3 → ℕ} {inb2} (ho2 : off2 = ![l.val, 0, 0])
    {sem : DmaSem sig} (hs : sem = loadS l) {hsrc hdst hsem} {Q : PUnit → sProp 𝕄}
    (h : ST m K c g bar (p + 1) q o a t u d e ⊢ Q ⟨⟩) :
    ST m K c g bar p q o a t u d e ⊢ W c (Prog.lift (.enqueueDma
      (wM.slice (Rect.unit (s := S4096x2048) off S4096x256.size inb) (fun _ => rfl))
      (.here ((bufM.slice (Rect.unit (s := S2x4096x256) off2 S1x4096x256.size inb2) (fun _ => rfl)).squeeze S4096x256 squeezes_S1x4096x256_S4096x256))
      (.dma sem) hsrc hdst hsem)) Q := by
  subst ho ho2 hs hp
  unfold ST Base Prog.lift
  iintro ⟨⟨#HR, #HL, HB⟩, HO, Hw, Hs, Hb, HLd, Hr⟩
  ihave HI := (recs_at m K c (some (.inl l))) $$ HR
  icases HI with ⟨#HI, -⟩
  ihave HLd := (lds_focus m c l (p' := 2 * r + l.val + 1) (q' := q) fun k hk => ⟨cnt_other hk r, rfl⟩) $$ HLd
  rw [hq, (cnt_start l r).1, (cnt_start l r).2]
  unfold Ld
  rw [if_neg (Nat.lt_irrefl r), if_pos (Nat.lt_succ_self r), bigSep_Ico_succ_bot hr]
  icases HLd with ⟨⟨⟨%v, -, Hbuf⟩, Hwa, Hat, #Hre, Ht, Hts⟩, Hk⟩
  unfold bufPts wAll
  icases Hbuf with ⟨%f, -, Hbuf⟩
  ihave Hwa := (pointsTo_split_subset (I := chunkSet (chkAt c (2 * r + l.val))) (Finset.subset_univ _)).1 $$ Hwa
  icases Hwa with ⟨Hwi, Hwo⟩
  iapply (wp_load_w m K c l hr (chkAt c (2 * r + l.val)) rfl f) $$ [Hwi Hbuf Ht]
  · isplitr; · iexact HI
    isplitl [Hwi]; · unfold wIn; iexact Hwi
    isplitl [Hbuf]; · iexact Hbuf
    isplitl [Ht]; · iexact Ht
    iexact Hre
  iintro Hcr
  iapply (retI h)
  unfold ST Base
  iframe # ∗
  iapply Hk
  unfold wOut
  iframe # ∗

theorem lv_load (l : Fin 2) : lv (loadCell c l) () = 0 := by unfold lv; rw [role_load]
theorem lv_send (b : Dev nD) : lv (sendCell c b) () = 0 := by unfold lv; rw [role_send]

theorem step_waitL (l : Fin 2) {r : ℕ} (hr : r < 4) (hq : q = 2 * r + l.val) (hp : cnt l p = r + 1)
    {sem : DmaSem sig} (hs : sem = loadS l) {sp sp' : Space} {s s' : Shape} {e₁ e₂ : EltTy} {src : Memref sig .tc sp' s' e₂} {dst : Memref sig .tc sp s e₁}
    {hsrc : src.view.WordExact} {hdst : dst.view.WordExact} (hd : dst.view.dmaCredit = NL) {Q : PUnit → sProp 𝕄}
    (h : ST m K c g bar p (q + 1) o a t u d e ⊢ Q ⟨⟩) :
    ST m K c g bar p q o a t u d e ⊢ W c (Prog.lift (.waitDma2 sem src dst hsrc hdst)) Q := by
  subst hs hq
  unfold ST Base Owe Prog.lift
  iintro ⟨⟨#HR, #HL, HB⟩, HO, ⟨%X, Hw⟩, Hs, Hb, HLd, Hr⟩
  ihave HI := (recs_at m K c (some (.inl l))) $$ HR
  icases HI with ⟨#HI, -⟩
  ihave HLd := (lds_focus m c l (p' := p) (q' := 2 * r + l.val + 1) fun k hk => ⟨rfl, cnt_other hk r⟩) $$ HLd
  rw [hp, (cnt_start l r).1, (cnt_start l r).2]
  unfold Ld
  rw [if_pos (Nat.lt_succ_self r), if_neg (Nat.lt_irrefl (r + 1))]
  icases HLd with ⟨⟨Hc, Hwo, Hat, Hts⟩, Hk⟩
  iapply (Rounds.wp_wait_rest_token 𝒱₀ ER (Rd m) (c : Thread nD τ) none (κ := K (c, some (.inl l)))
      (wpE_waitDma2_eq 𝒱₀ (c : Thread nD τ) none Set.univ) (Set.mem_univ _) () (O := owe c g t) (W := X) (R := r) (m := 0) (T := ∅)
      (by rw [Nat.zero_add, expect_load m c l hr, hd])) $$ [Hc Hw Hat]
  · isplitr; · iexact HI
    isplitl [Hc]; · rw [hd]; iexact Hc
    isplitl [Hw]; · iexact Hw
    isplitr; · iapply (mayWait_low c _ (lv_load c l) g t); iexact HL
    iexact Hat
  iintro ⟨Hw, Hat, Hre, Hpay⟩
  ihave Hp := (Entails.of_eq (rest_load m c l hr)) $$ Hpay
  icases Hp with ⟨Hbuf, Hwi⟩
  unfold wIn wOut
  ihave Hwa := (pointsTo_split_subset (ℓ := (c : Thread nD τ).loc main_arg1) (I := chunkSet (chkAt c (2 * r + l.val))) (Finset.subset_univ _)).2 $$ [Hwi Hwo]
  · isplitl [Hwi]; · iexact Hwi
    iexact Hwo
  iapply (retI h)
  unfold ST Base Owe
  iframe # ∗
  isplitl [Hw]; · iexists _; iexact Hw
  iapply Hk
  unfold wAll
  iframe # ∗
  iexists _
  isplitr
  · ipureintro; intro _; rfl
  iexact Hbuf

theorem step_loadL (l : Fin 2) {r : ℕ} (hq : cnt l q = r + 1) (hp : cnt l p = r + 1)
    {off : Fin 3 → ℕ} {inb} (ho : off = ![l.val, 0, 0]) {hl : bufM.view.LoadsAt (Rect.unit (s := S2x4096x256) off S1x4096x256.size inb).toLoadRect}
    {Q : Vec F S1x4096x256 .f32 → sProp 𝕄}
    (h : ST m K c g bar p q o a t u d e ⊢ Q (halfV m c (chkAt c (2 * r + l.val)))) :
    ST m K c g bar p q o a t u d e ⊢ W c (Prog.lift (.load bufM (Rect.unit (s := S2x4096x256) off S1x4096x256.size inb).toLoadRect hl)) Q := by
  subst ho
  unfold ST Prog.lift
  iintro ⟨HB, HO, Hw, Hs, Hb, HLd, Hr⟩
  ihave HLd := (lds_focus m c l (p' := p) (q' := q) fun k hk => ⟨rfl, rfl⟩) $$ HLd
  rw [hp, hq]
  unfold Ld
  rw [if_neg (Nat.lt_irrefl (r + 1))]
  icases HLd with ⟨⟨⟨%v, %hv, Hbuf⟩, HX⟩, Hk⟩
  unfold bufPts
  icases Hbuf with ⟨%f, %hf, Hbuf⟩
  iapply (wp_load_rect 𝒱₀ (c : Thread nD τ) none Set.univ (m := bufM) (r := halfR l) (S := (bufM.access (halfR l)).set) subset_rfl) $$ [Hbuf]
  · iexact Hbuf
  iintro Hbuf
  rw [hf, hv (by omega)]
  iapply (retI h)
  unfold ST
  iframe # ∗
  iapply Hk
  iframe # ∗
  iexists _
  isplitr
  · ipureintro; intro _; rfl
  iexists f
  isplitr
  · ipureintro; rw [hf, hv (by omega)]
  iexact Hbuf

/-! ## The result -/

theorem rows_disjoint {s s' : Dev nD} (h : s' ≠ s) : Disjoint (oM.view.slice (rowsR s')).set ((oM.view.slice (rowsR s)).setOn Finset.univ) := by
  rw [View.setOn_univ, View.set_slice_whole, View.set_slice_whole]
  exact Ring.lead_disjoint (s := S4096x64) (NB := 32) (0 : Fin 2) 128 (fun b : Fin 32 => ![128 * b.val, 0]) S128x64.size (fun b => rows_inb b)
    (fun b => rfl) rfl s' s h

theorem out_write {o' e' : ℕ} (s : Dev nD) (hk : ∀ s', filled c o' e' s' → s' ≠ s → filled c o e s') {w : FVec F S128x64 .f32} (hw : w = rowsV m c s)
    (f : Buf (Elt F) ((c : Thread nD τ).loc cc0_stg3_0)) (hf : ∀ s, filled c o e s → (oM.access (rowsR s)).read (Elt F) f = rowsV m c s) :
    ∀ s', filled c o' e' s' → (oM.access (rowsR s')).read (Elt F) ((oM.access (rowsR s)).write (Elt F) f w Finset.univ) = rowsV m c s' := by
  intro s' hs'
  by_cases hss : s' = s
  · subst hss; subst hw; exact View.read_write_univ ..
  · exact (View.read_slice_write_slice_of_disjoint (v := oM.view) (rowsR s') (rowsR s) f w Finset.univ (rows_disjoint hss)).trans (hf s' (hk s' hs' hss))

theorem step_loadO {off : Fin 2 → ℕ} {inb} {hl : oM.view.LoadsAt (Rect.unit (s := S4096x64) off S128x64.size inb).toLoadRect}
    {Q : Vec F S128x64 .f32 → sProp 𝕄} (h : ∀ v, ST m K c g bar p q o a t u d e ⊢ Q v) :
    ST m K c g bar p q o a t u d e ⊢ W c (Prog.lift (.load oM (Rect.unit (s := S4096x64) off S128x64.size inb).toLoadRect hl)) Q := by
  unfold ST Out Prog.lift
  iintro ⟨HB, ⟨%f, %hf, Ho⟩, Hr⟩
  iapply (wp_load_rect 𝒱₀ (c : Thread nD τ) none Set.univ (m := oM) (r := Rect.unit (s := S4096x64) off S128x64.size inb) (S := Finset.univ) (Finset.subset_univ _)) $$ [Ho]
  · iexact Ho
  iintro Ho
  iapply (retI (h _))
  unfold ST Out
  iframe # ∗
  iexists f
  isplitr
  · ipureintro; exact hf
  iexact Ho

theorem step_storeO {o' e' : ℕ} (s : Dev nD) (hk : ∀ s', filled c o' e' s' → s' ≠ s → filled c o e s') {w : FVec F S128x64 .f32} (hw : w = rowsV m c s)
    {off : Fin 2 → ℕ} {inb} (ho : off = ![128 * s.val, 0]) {hx : (oM.access (Rect.unit (s := S4096x64) off S128x64.size inb)).Stores Finset.univ} {hm}
    {Q : PUnit → sProp 𝕄} (h : ST m K c g bar p q o' a t u d e' ⊢ Q ⟨⟩) :
    ST m K c g bar p q o a t u d e ⊢ W c (Prog.lift (.store oM (Rect.unit (s := S4096x64) off S128x64.size inb) w Finset.univ hx hm)) Q := by
  subst ho
  unfold ST Out Prog.lift
  iintro ⟨HB, ⟨%f, %hf, Ho⟩, Hr⟩
  iapply (wp_store 𝒱₀ (c : Thread nD τ) none Set.univ (m := oM) (r := rowsR s) (w := w) (Mk := Finset.univ) (S := Finset.univ) (Finset.subset_univ _)) $$ [Ho]
  · iexact Ho
  iintro Ho
  iapply (retI h)
  unfold ST Out
  iframe # ∗
  iexists _
  isplitr
  · ipureintro; exact out_write m c s hk hw f hf
  iexact Ho

theorem step_own {α : Type} {i : Fin 4} {j : ℕ} (hj : j < 8) (hoj : o = 4 * j + i.val) {C : Prop} [Decidable C] (hC : C ↔ blkOf c o = c)
    {off : Fin 2 → ℕ} {inb : C → ∀ a : Fin S4096x64.rank, off a + S128x64.size a ≤ S4096x64.size a} (ho : C → off = ![128 * c.val, 0])
    {w : FVec F S128x64 .f32} (hw : w = blockAt m c (chkAt c j) i)
    {hl : ∀ h : C, oM.view.LoadsAt (Rect.unit (s := S4096x64) off S128x64.size (inb h)).toLoadRect}
    {hx : ∀ h : C, (oM.access (Rect.unit (s := S4096x64) off S128x64.size (inb h))).Stores Finset.univ}
    {hm : ∀ h : C, (Finset.univ : Finset (Rect.unit (s := S4096x64) off S128x64.size (inb h)).shape.Idx) = Finset.univ
      ∨ ∀ a, (Rect.unit (s := S4096x64) off S128x64.size (inb h)).stride a = 1}
    {J : Prog (TpuEff nD τ sig (Elt F) Λ₀ .tc) α} {Q : α → sProp 𝕄}
    (h : ST m K c g bar p q (o + 1) a t u d e ⊢ W c J Q) :
    ST m K c g bar p q o a t u d e ⊢ W c (dite C
      (fun h => Prog.lift (.load oM (Rect.unit (s := S4096x64) off S128x64.size (inb h)).toLoadRect (hl h)) >>= fun _ =>
        Prog.lift (.store oM (Rect.unit (s := S4096x64) off S128x64.size (inb h)) w Finset.univ (hx h) (hm h)) >>= fun _ => J)
      (fun _ => J)) Q := by
  have h32 : o < 32 := by have := i.isLt; omega
  by_cases hc : C
  · rw [dif_pos hc]
    have hb := hC.mp hc
    have hs : stepOf c c = o := by have := stepOf_blkOf c h32; rwa [hb] at this
    refine seqI (step_loadO m K c fun v => seqI (step_storeO m K c (o' := o + 1) (e' := e) c ?_ ?_ (ho hc) h))
    · intro s' h1 h2
      unfold filled at h1 ⊢
      rwa [if_neg h2] at h1 ⊢
    · rw [hw]; unfold rowsV; rw [if_pos rfl, ← blockV_blkOf m c hj i, ← hoj, hb]
  · rw [dif_neg hc]
    refine BIBase.Entails.trans ?_ h
    unfold ST Out
    iintro ⟨HB, ⟨%f, %hf, Ho⟩, Hr⟩
    iframe # ∗
    iexists f
    isplitr
    · ipureintro
      intro s' hs'
      refine hf s' ?_
      unfold filled at hs' ⊢
      split at hs'
      · rename_i hsc
        have : stepOf c c ≠ o := fun h' => hc (hC.mpr (by rw [← h']; exact blkOf_stepOf c c))
        rw [if_pos hsc]; omega
      · rename_i hsc
        rwa [if_neg hsc]
    iexact Ho

/-! ## Blocks: storing, sending, waiting for the send -/

/-- What stays beside the slot of a block that is not yet sent. -/
def BkRest (c b : Dev nD) : sProp 𝕄 :=
  if b = c then atPos ER (sendCell c c) 0 ∅ 0
  else iprop(dutyTok ER (sendCell c b) 0 0 ∗ dutyTok ER (recvCell b c) 0 0 ∗ atPos ER (sendCell c b) 0 ∅ 0)

theorem bk_open (b : Dev nD) (hu : u ≤ stepOf c b) (ht : t ≤ stepOf c b) :
    (Bk m c a t u b : sProp 𝕄) ⊢ iprop((∃ v, sndPts c b v) ∗ BkRest c b) := by
  unfold Bk BkRest
  by_cases hb : b = c
  · subst hb; rw [if_pos rfl, if_pos rfl]
  · rw [if_neg hb, if_neg hb, if_neg (by omega), if_neg (by omega)]
    iintro ⟨⟨%v, -, Hv⟩, HX⟩
    isplitl [Hv]; · iexists v; iexact Hv
    iexact HX
theorem bk_close (b : Dev nD) (hu : u ≤ stepOf c b) (ht : t ≤ stepOf c b) {v} (hv : stepOf c b < a → v = sentV m c b) :
    iprop(sndPts c b v ∗ BkRest c b) ⊢ (Bk m c a t u b : sProp 𝕄) := by
  unfold Bk BkRest
  by_cases hb : b = c
  · subst hb; rw [if_pos rfl, if_pos rfl]
    iintro ⟨Hv, HX⟩
    isplitl [Hv]; · iexists v; iexact Hv
    iexact HX
  · rw [if_neg hb, if_neg hb, if_neg (by omega), if_neg (by omega)]
    iintro ⟨Hv, HX⟩
    isplitl [Hv]
    · iexists v
      isplitr
      · ipureintro; exact hv
      iexact Hv
    iexact HX

theorem step_loadS (ha : a < 32) (hta : t ≤ a) (hua : u ≤ a) {off : Fin 3 → ℕ} {inb} (ho : off = ![(blkOf c a).val, 0, 0])
    {hl : sndM.view.LoadsAt (Rect.unit (s := S32x128x64) off S1x128x64.size inb).toLoadRect}
    {Q : Vec F S1x128x64 .bf16 → sProp 𝕄} (h : ∀ v, ST m K c g bar p q o a t u d e ⊢ Q v) :
    ST m K c g bar p q o a t u d e ⊢ W c (Prog.lift (.load sndM (Rect.unit (s := S32x128x64) off S1x128x64.size inb).toLoadRect hl)) Q := by
  subst ho
  have hs := stepOf_blkOf c ha
  unfold ST Prog.lift
  iintro ⟨HB, HO, Hw, Hs, Hb, HLd, HBk, Hr⟩
  ihave HBk := (blk_focus m c (blkOf c a) (a' := a) (t' := t) (u' := u) fun n hn => ⟨Iff.rfl, Iff.rfl, Iff.rfl⟩) $$ HBk
  icases HBk with ⟨HBk, Hk⟩
  ihave HBk := (bk_open m c (blkOf c a) (by omega) (by omega)) $$ HBk
  icases HBk with ⟨⟨%v, Hv⟩, HX⟩
  unfold sndPts
  icases Hv with ⟨%f, %hf, Hv⟩
  iapply (wp_load_rect 𝒱₀ (c : Thread nD τ) none Set.univ (m := sndM) (r := slotR (blkOf c a)) (S := (sndM.access (slotR (blkOf c a))).set) subset_rfl) $$ [Hv]
  · iexact Hv
  iintro Hv
  iapply (retI (h _))
  unfold ST
  iframe # ∗
  iapply Hk
  iapply (bk_close m c (blkOf c a) (by omega) (by omega) (v := v) fun h => absurd h (by omega))
  unfold sndPts
  iframe # ∗
  iexists f
  isplitr
  · ipureintro; exact hf
  iexact Hv

theorem step_storeS {j : ℕ} (hj : j < 8) {i : Fin 4} (haj : a = 4 * j + i.val) (hta : t ≤ a) (hua : u ≤ a) {off : Fin 3 → ℕ} {inb}
    (ho : off = ![(blkOf c a).val, 0, 0]) {w : FVec F S1x128x64 .bf16} (hw : w = sentAt m c (chkAt c j) i)
    {hx : (sndM.access (Rect.unit (s := S32x128x64) off S1x128x64.size inb)).Stores Finset.univ} {hm}
    {Q : PUnit → sProp 𝕄} (h : ST m K c g bar p q o (a + 1) t u d e ⊢ Q ⟨⟩) :
    ST m K c g bar p q o a t u d e ⊢ W c (Prog.lift (.store sndM (Rect.unit (s := S32x128x64) off S1x128x64.size inb) w Finset.univ hx hm)) Q := by
  subst ho
  have ha : a < 32 := by have := i.isLt; omega
  have hs := stepOf_blkOf c ha
  have hv : w = sentV m c (blkOf c a) := by rw [hw, haj, sentV_blkOf m c hj i]
  unfold ST Prog.lift
  iintro ⟨HB, HO, Hw, Hs, Hb, HLd, HBk, Hr⟩
  ihave HBk := (blk_focus m c (blkOf c a) (a' := a + 1) (t' := t) (u' := u) fun n hn => ⟨by omega, Iff.rfl, Iff.rfl⟩) $$ HBk
  icases HBk with ⟨HBk, Hk⟩
  ihave HBk := (bk_open m c (blkOf c a) (by omega) (by omega)) $$ HBk
  icases HBk with ⟨⟨%v, Hv⟩, HX⟩
  unfold sndPts
  icases Hv with ⟨%f, -, Hv⟩
  iapply (wp_store 𝒱₀ (c : Thread nD τ) none Set.univ (m := sndM) (r := slotR (blkOf c a)) (w := w) (Mk := Finset.univ)
    (S := (sndM.access (slotR (blkOf c a))).set) subset_rfl) $$ [Hv]
  · iexact Hv
  iintro Hv
  iapply (retI h)
  unfold ST
  iframe # ∗
  iapply Hk
  iapply (bk_close m c (blkOf c a) (by omega) (by omega) (v := w) fun _ => hv)
  unfold sndPts
  iframe # ∗
  iexists ((sndM.access (slotR (blkOf c a))).write (Elt F) f w Finset.univ)
  isplitr
  · ipureintro; exact View.read_write_univ ..
  iexact Hv

/-- Slot `b` of the send buffer and slot `s` of the landing buffer, as matrices. -/
abbrev sndSq (b : Dev nD) : Memref sig .tc .vmem S128x64 .bf16 := (sndM.slice (slotR b) (fun _ => rfl)).squeeze S128x64 squeezes_S1x128x64_S128x64
abbrev rcvSq (s : Dev nD) : Memref sig .tc .vmem S128x64 .bf16 := (rcvM.slice (slotR s) (fun _ => rfl)).squeeze S128x64 squeezes_S1x128x64_S128x64

theorem sndSq_set (b : Dev nD) : (sndSq b).view.set = (sndM.access (slotR b)).set := View.set_reshape _ _
theorem rcvSq_set (s : Dev nD) : (rcvSq s).view.set = (rcvM.access (slotR s)).set := View.set_reshape _ _

/-- What a block hands over when it lands in slot `c` of device `b`: the slot, reading what was sent. -/
theorem landed_slot (b : Dev nD) (fs : Buf (Elt F) ((sndM.access (slotR b)).loc (c : Thread nD τ))) (fd : Buf (Elt F) ((rcvM.access (slotR c)).loc (b : Thread nD τ)))
    {v} (hv : (sndM.access (slotR b)).read (Elt F) fs = v) :
    ((rcvM.access (slotR c)).loc (b : Thread nD τ) ↦[(rcvM.access (slotR c)).set]{fullShare}
        ((rcvSq c).view.write (Elt F) fd ((sndSq b).view.read (Elt F) fs) Finset.univ))
      ⊢ (rcvPts b c v : sProp 𝕄) := by
  have hr := read_eq_of_reshape (rcvM.access (slotR c)) squeezes_S1x128x64_S128x64.numel_eq shapeCasts_S1x128x64_S128x64 shapeCasts_S128x64_S1x128x64
    ((rcvSq c).view.write (Elt F) fd ((sndSq b).view.read (Elt F) fs) Finset.univ) ((sndSq b).view.read (Elt F) fs) (View.read_write_univ ..)
  have hs := read_eq_of_reshape (sndM.access (slotR b)) squeezes_S1x128x64_S128x64.numel_eq shapeCasts_S1x128x64_S128x64 shapeCasts_S128x64_S1x128x64
    fs ((sndSq b).view.read (Elt F) fs) rfl
  unfold rcvPts
  iintro Hd
  iexists _
  isplitr
  · ipureintro; exact hr.trans (hs.symm.trans hv)
  iexact Hd

theorem wp_send_sq (b n : Dev nD) (hn : n = b) (hb : b ≠ c) {hsc : (rcvSq c).view.ref.isScScratch = false}
    {hsrc : (sndSq b).view.WordExact} {hdst : (rcvSq c).view.WordExact}
    {hsem : DmaTarget.Typed .vmem (.dma (recvS c)) (.remote (Dev.tc n : Thread nD τ) (rcvSq c) (.dma (sendS b)) hsc : DmaTarget nD τ sig .tc .vmem S128x64 .bf16)}
    {α : Type} {Q : α → sProp 𝕄} {k : PUnit → Prog (TpuEff nD τ sig (Elt F) Λ₀ .tc) α}
    (fs : Buf (Elt F) ((sndSq b).view.loc (c : Thread nD τ))) (fd : Buf (Elt F) ((rcvSq c).view.loc (b : Thread nD τ))) (X : Waits sig Unit)
    (O₀ O : CellTallies nD τ sig Unit) (hO : O₀ = O + tallyAt (recvCell b c) () N)
    (hp₁ : ((sndSq b).view.loc (c : Thread nD τ) ↦[(sndSq b).view.set]{fullShare} fs) ⊢ (Rd (F := F) m).payload (sendCell c b) 0 0)
    (hp₂ : ((rcvSq c).view.loc (b : Thread nD τ) ↦[(rcvSq c).view.set]{fullShare} ((rcvSq c).view.write (Elt F) fd ((sndSq b).view.read (Elt F) fs) Finset.univ))
      ⊢ (Rd (F := F) m).payload (recvCell b c) 0 0) :
    iprop(cellInv ER (Rd m) (K (c, some (.inr (.inl b)))) (sendCell c b) ∗ cellInv ER (Rd m) (K (b, some (.inr (.inr c)))) (recvCell b c)
        ∗ ((sndSq b).view.loc (c : Thread nD τ) ↦[(sndSq b).view.set]{fullShare} fs)
        ∗ ((rcvSq c).view.loc (b : Thread nD τ) ↦[(rcvSq c).view.set]{fullShare} fd)
        ∗ owes (c : Thread nD τ) O₀ X
        ∗ dutyTok ER (sendCell c b) 0 0 ∗ reached ER (sendCell c b) 0
        ∗ dutyTok ER (recvCell b c) 0 0 ∗ reached ER (recvCell b c) 0)
      ⊢ iprop(((cred (tallyAt (sendCell c b) () N) ∗ owes (c : Thread nD τ) O X) -∗ W c (k ⟨⟩) Q)
          -∗ W c (.op (.enqueueDma (sndSq b) (.remote (Dev.tc n : Thread nD τ) (rcvSq c) (.dma (sendS b)) hsc) (.dma (recvS c)) hsrc hdst hsem) k) Q) := by
  subst hn
  exact Rounds.wp_send_pointsTo 𝒱₀ ER (Rd m) (c : Thread nD τ) none (defs := defs₀ (F := F)) (c' := (n : Thread nD τ)) (src := sndSq n) (dst := rcvSq c) (hsrc := hsrc) (hdst := hdst)
    (hsem := hsem) (k := k) (Q := Q) (Es := Set.univ)
    (κ₁ := K (c, some (.inr (.inl n)))) (κ₂ := K (n, some (.inr (.inr c)))) (r₁ := 0) (r₂ := 0) (d₁ := 0) (d₂ := 0) (q := fullShare) (fs := fs) (fd := fd)
    (by rw [duties_send m c hb]; exact Finset.mem_singleton_self _) (by rw [duties_recv m n hb.symm]; exact Finset.mem_singleton_self _)
    () () N rcv_credit (amount_send m c n 0 0) (amount_recv m n c 0 0) O hO (W := X) hp₁ hp₂

theorem wp_send_blk (b n : Dev nD) (hn : n = b) (hb : b ≠ c) {hsc : (rcvSq c).view.ref.isScScratch = false}
    {hsrc : (sndSq b).view.WordExact} {hdst : (rcvSq c).view.WordExact}
    {hsem : DmaTarget.Typed .vmem (.dma (recvS c)) (.remote (Dev.tc n : Thread nD τ) (rcvSq c) (.dma (sendS b)) hsc : DmaTarget nD τ sig .tc .vmem S128x64 .bf16)}
    {α : Type} {Q : α → sProp 𝕄} {k : PUnit → Prog (TpuEff nD τ sig (Elt F) Λ₀ .tc) α} (X : Waits sig Unit)
    (O₀ O : CellTallies nD τ sig Unit) (hO : O₀ = O + tallyAt (recvCell b c) () N) :
    iprop(cellInv ER (Rd m) (K (c, some (.inr (.inl b)))) (sendCell c b) ∗ cellInv ER (Rd m) (K (b, some (.inr (.inr c)))) (recvCell b c)
        ∗ sndPts c b (sentV m c b) ∗ (∃ v, rcvPts b c v)
        ∗ owes (c : Thread nD τ) O₀ X
        ∗ dutyTok ER (sendCell c b) 0 0 ∗ reached ER (sendCell c b) 0
        ∗ dutyTok ER (recvCell b c) 0 0 ∗ reached ER (recvCell b c) 0)
      ⊢ iprop(((cred (tallyAt (sendCell c b) () N) ∗ owes (c : Thread nD τ) O X) -∗ W c (k ⟨⟩) Q)
          -∗ W c (.op (.enqueueDma (sndSq b) (.remote (Dev.tc n : Thread nD τ) (rcvSq c) (.dma (sendS b)) hsc) (.dma (recvS c)) hsrc hdst hsem) k) Q) := by
  unfold sndPts rcvPts
  iintro ⟨HI, HI', ⟨%fs, %hfs, Hs⟩, ⟨%v, %fd, -, Hd⟩, HX⟩
  have h := wp_send_sq m K c b n hn hb (hsc := hsc) (hsrc := hsrc) (hdst := hdst) (hsem := hsem) (Q := Q) (k := k) fs fd X O₀ O hO
    (by
      rw [payload_send, sndSq_set]
      unfold sndPts
      iintro Hs
      iexists _, fs
      isplitr
      · ipureintro; rfl
      iexact Hs)
    (by rw [payload_recv, rcvSq_set]; exact landed_slot c b fs fd hfs)
  rw [sndSq_set, rcvSq_set] at h
  iapply h
  iframe # ∗

/-- A step at which a device comes to its own block sends nothing. -/
theorem skip_send (ht : t < 32) (he : blkOf c t = c) : ST m K c 31 true p q o a t u d e ⊢ ST m K c 31 true p q o a (t + 1) u d e := by
  have hs := stepOf_blkOf c ht
  unfold ST Owe
  rw [owe_own c 31 ht he]
  iintro ⟨HB, HO, Hw, Hs, Hb, HLd, HBk, Hr⟩
  ihave Hb := (bar_own c ht he) $$ Hb
  ihave HBk := (blk_focus m c (blkOf c t) (a' := a) (t' := t + 1) (u' := u) fun n hn => ⟨Iff.rfl, by omega, Iff.rfl⟩) $$ HBk
  rw [he]
  unfold Bk
  rw [if_pos rfl, if_pos rfl]
  icases HBk with ⟨HBk, Hk⟩
  iframe # ∗
  iapply Hk
  iexact HBk

theorem bk_ready (b : Dev nD) (hb : b ≠ c) (hu : u ≤ stepOf c b) (ht : t ≤ stepOf c b) (ha : stepOf c b < a) :
    (Bk m c a t u b : sProp 𝕄) ⊢ iprop(sndPts c b (sentV m c b)
      ∗ dutyTok ER (sendCell c b) 0 0 ∗ dutyTok ER (recvCell b c) 0 0 ∗ atPos ER (sendCell c b) 0 ∅ 0) := by
  unfold Bk
  rw [if_neg hb, if_neg (by omega), if_neg (by omega)]
  iintro ⟨⟨%v, %hv, Hv⟩, HX⟩
  rw [hv ha]
  iframe # ∗
theorem bk_away (b : Dev nD) (hb : b ≠ c) (hu : u ≤ stepOf c b) (ht : stepOf c b < t) :
    iprop(cred (tallyAt (sendCell c b) () N) ∗ atPos ER (sendCell c b) 0 ∅ 0) ⊢ (Bk m c a t u b : sProp 𝕄) := by
  unfold Bk
  rw [if_neg hb, if_neg (by omega), if_pos (by omega)]

theorem step_send {α : Type} (ht : t < 32) (hta : t < a) (hut : u ≤ t) {C : Prop} [Decidable C] (hC : C ↔ blkOf c t ≠ c)
    {dv : C → Dev nD} (hdv : ∀ h, dv h = blkOf c t) {ss rs : C → DmaSem sig} (hss : ∀ h, ss h = sendS (blkOf c t)) (hrs : ∀ h, rs h = recvS c)
    {off off' : Fin 3 → ℕ} {inb : C → ∀ a : Fin S32x128x64.rank, off a + S1x128x64.size a ≤ S32x128x64.size a}
    {inb' : C → ∀ a : Fin S32x128x64.rank, off' a + S1x128x64.size a ≤ S32x128x64.size a}
    (ho : C → off = ![c.val, 0, 0]) (ho' : C → off' = ![(blkOf c t).val, 0, 0])
    {hsc : ∀ h : C, ((rcvM.slice (Rect.unit (s := S32x128x64) off S1x128x64.size (inb h)) (fun _ => rfl)).squeeze S128x64 squeezes_S1x128x64_S128x64).view.ref.isScScratch = false}
    {hsrc : ∀ h : C, ((sndM.slice (Rect.unit (s := S32x128x64) off' S1x128x64.size (inb' h)) (fun _ => rfl)).squeeze S128x64 squeezes_S1x128x64_S128x64).view.WordExact}
    {hdst : ∀ h : C, ((rcvM.slice (Rect.unit (s := S32x128x64) off S1x128x64.size (inb h)) (fun _ => rfl)).squeeze S128x64 squeezes_S1x128x64_S128x64).view.WordExact}
    {hsem : ∀ h : C, DmaTarget.Typed .vmem (.dma (rs h)) (.remote (Dev.tc (dv h) : Thread nD τ)
      ((rcvM.slice (Rect.unit (s := S32x128x64) off S1x128x64.size (inb h)) (fun _ => rfl)).squeeze S128x64 squeezes_S1x128x64_S128x64)
      (.dma (ss h)) (hsc h) : DmaTarget nD τ sig .tc .vmem S128x64 .bf16)}
    {J : Prog (TpuEff nD τ sig (Elt F) Λ₀ .tc) α} {Q : α → sProp 𝕄}
    (h : ST m K c 31 true p q o a (t + 1) u d e ⊢ W c J Q) :
    ST m K c 31 true p q o a t u d e ⊢ W c (dite C
      (fun h => Prog.lift (.enqueueDma ((sndM.slice (Rect.unit (s := S32x128x64) off' S1x128x64.size (inb' h)) (fun _ => rfl)).squeeze S128x64 squeezes_S1x128x64_S128x64)
        (.remote (Dev.tc (dv h) : Thread nD τ) ((rcvM.slice (Rect.unit (s := S32x128x64) off S1x128x64.size (inb h)) (fun _ => rfl)).squeeze S128x64 squeezes_S1x128x64_S128x64)
          (.dma (ss h)) (hsc h)) (.dma (rs h)) (hsrc h) (hdst h) (hsem h)) >>= fun _ => J)
      (fun _ => J)) Q := by
  by_cases hc : C
  · rw [dif_pos hc]
    have hb := hC.mp hc
    have hs := stepOf_blkOf c ht
    have ho := ho hc
    have ho' := ho' hc
    subst ho ho'
    have hss := hss hc
    have hrs := hrs hc
    have hdv := hdv hc
    generalize hsem hc = hse
    clear hsem
    generalize ss hc = ss' at hss hse ⊢
    generalize rs hc = rs' at hrs hse ⊢
    subst hss hrs
    refine seqI ?_
    unfold ST Base Owe Prog.lift
    iintro ⟨⟨#HR, #HL, HB⟩, HO, ⟨%X, Hw⟩, Hs, Hbr, HLd, HBk, Hr⟩
    ihave HI := (recs_at m K c (some (.inr (.inl (blkOf c t))))) $$ HR
    icases HI with ⟨#HI, #Hre⟩
    ihave HI := (recs_at m K (blkOf c t) (some (.inr (.inr c)))) $$ HR
    icases HI with ⟨#HI', #Hre'⟩
    ihave Hbr := (bar_take c ht hb) $$ Hbr
    icases Hbr with ⟨Hrc, Hbr⟩
    ihave HBk := (blk_focus m c (blkOf c t) (a' := a) (t' := t + 1) (u' := u) fun n hn => ⟨Iff.rfl, by omega, Iff.rfl⟩) $$ HBk
    icases HBk with ⟨HBk, Hk⟩
    ihave HBk := (bk_ready m c (blkOf c t) hb (by omega) (by omega) (by omega)) $$ HBk
    icases HBk with ⟨Hv, Hts, Htr, Hat⟩
    iapply (wp_send_blk m K c (blkOf c t) (dv hc) hdv hb X (owe c 31 t) (owe c 31 (t + 1)) (owe_send c 31 ht hb)) $$ [Hv Hrc Hw Hts Htr]
    · iframe # ∗
      isplitr; · iexact HI
      isplitr; · iexact HI'
      isplitr; · iexact Hre
      iexact Hre'
    iintro ⟨Hcr, Hw⟩
    iapply (retI (c := c) (v := PUnit.unit) (Q := fun _ => W c J Q) h)
    unfold ST Base Owe
    iframe # ∗
    isplitl [Hw]; · iexists X; iexact Hw
    iapply Hk
    iapply (bk_away m c (blkOf c t) hb (by omega) (by omega))
    iframe # ∗
  · rw [dif_neg hc]
    have he : blkOf c t = c := by by_contra hn; exact hc (hC.mpr hn)
    exact (skip_send m K c ht he).trans h

/-! ## Receiving -/

theorem step_waitR (hd : d < 31) {sem : DmaSem sig} (hs : sem = recvS (srcOf c d)) {sp sp' : Space} {s s' : Shape} {e₁ e₂ : EltTy}
    {src : Memref sig .tc sp' s' e₂} {dst : Memref sig .tc sp s e₁}
    {hsrc : src.view.WordExact} {hdst : dst.view.WordExact} (hamt : dst.view.dmaCredit = N) {Q : PUnit → sProp 𝕄}
    (h : ST m K c 31 bar p q o a 32 u (d + 1) e ⊢ Q ⟨⟩) :
    ST m K c 31 bar p q o a 32 u d e ⊢ W c (Prog.lift (.waitDma2 sem src dst hsrc hdst)) Q := by
  subst hs
  have hr := rcvOf_srcOf c (d := d) (by omega)
  have hne := srcOf_ne c hd
  unfold ST Base Owe Prog.lift
  iintro ⟨⟨#HR, #HL, HB⟩, HO, ⟨%X, Hw⟩, Hs, Hb, HLd, HBk, Hr⟩
  ihave HI := (recs_at m K c (some (.inr (.inr (srcOf c d))))) $$ HR
  icases HI with ⟨#HI, -⟩
  ihave Hr := (rcv_focus m c (srcOf c d) (d' := d + 1) fun n hn => by omega) $$ Hr
  unfold Rc
  rw [if_neg hne, if_neg hne, if_neg (by omega), if_pos (by omega)]
  icases Hr with ⟨⟨Hc, Hat⟩, Hk⟩
  iapply (Rounds.wp_wait_rest_token 𝒱₀ ER (Rd m) (c : Thread nD τ) none (κ := K (c, some (.inr (.inr (srcOf c d)))))
      (wpE_waitDma2_eq 𝒱₀ (c : Thread nD τ) none Set.univ) (Set.mem_univ _) () (O := owe c 31 32) (W := X) (R := 0) (m := 0) (T := ∅)
      (by rw [Nat.zero_add, expect_recv m c hne, hamt])) $$ [Hc Hw Hat]
  · isplitr; · iexact HI
    isplitl [Hc]; · rw [hamt]; iexact Hc
    isplitl [Hw]; · iexact Hw
    isplitr; · rw [owe_done, MayWait_zero]; iempintro
    iexact Hat
  iintro ⟨Hw, Hat, -, Hpay⟩
  ihave Hp := (Entails.of_eq (rest_recv m c hne)) $$ Hpay
  imod (Rounds.cell_close ER (Rd m) (Set.mem_univ (K (c, some (.inr (.inr (srcOf c d)))))) (fun h => h) (R := 0 + 1) (later_recv m c (srcOf c d))) $$ [Hat] with Hz
  · isplitr; · iexact HI
    iexact Hat
  iapply (retI h)
  unfold ST Base Owe
  iframe # ∗
  isplitl [Hw]; · iexists _; iexact Hw
  iapply Hk
  iframe # ∗

theorem step_loadR {n : ℕ} (hn : n < 31) (hd : d = n + 1) {off : Fin 3 → ℕ} {inb} (ho : off = ![(srcOf c n).val, 0, 0])
    {hl : rcvM.view.LoadsAt (Rect.unit (s := S32x128x64) off S1x128x64.size inb).toLoadRect}
    {Q : Vec F S1x128x64 .bf16 → sProp 𝕄} (h : ST m K c g bar p q o a t u d e ⊢ Q (sentV m (srcOf c n) c)) :
    ST m K c g bar p q o a t u d e ⊢ W c (Prog.lift (.load rcvM (Rect.unit (s := S32x128x64) off S1x128x64.size inb).toLoadRect hl)) Q := by
  subst ho hd
  have hr := rcvOf_srcOf c (d := n) (by omega)
  have hne := srcOf_ne c hn
  unfold ST Prog.lift
  iintro ⟨HB, HO, Hw, Hs, Hb, HLd, HBk, Hr⟩
  ihave Hr := (rcv_focus m c (srcOf c n) (d' := n + 1) fun n hn => Iff.rfl) $$ Hr
  unfold Rc
  rw [if_neg hne, if_pos (by omega)]
  icases Hr with ⟨⟨Hv, Hz⟩, Hk⟩
  unfold rcvPts
  icases Hv with ⟨%f, %hf, Hv⟩
  iapply (wp_load_rect 𝒱₀ (c : Thread nD τ) none Set.univ (m := rcvM) (r := slotR (srcOf c n)) (S := (rcvM.access (slotR (srcOf c n))).set) subset_rfl) $$ [Hv]
  · iexact Hv
  iintro Hv
  rw [hf]
  iapply (retI h)
  unfold ST
  iframe # ∗
  iapply Hk
  iframe # ∗
  iexists f
  isplitr
  · ipureintro; exact hf
  iexact Hv

theorem step_putR (he : e < 31) {w : FVec F S128x64 .f32} (hw : w = k0_pay93 (sentV m (srcOf c e) c))
    {off : Fin 2 → ℕ} {inb} (ho : off = ![128 * (srcOf c e).val, 0]) {hx : (oM.access (Rect.unit (s := S4096x64) off S128x64.size inb)).Stores Finset.univ} {hm}
    {Q : PUnit → sProp 𝕄} (h : ST m K c g bar p q o a t u d (e + 1) ⊢ Q ⟨⟩) :
    ST m K c g bar p q o a t u d e ⊢ W c (Prog.lift (.store oM (Rect.unit (s := S4096x64) off S128x64.size inb) w Finset.univ hx hm)) Q := by
  have hne := srcOf_ne c he
  refine step_storeO m K c (o' := o) (e' := e + 1) (srcOf c e) ?_ ?_ ho h
  · intro s' h1 h2
    unfold filled at h1 ⊢
    split at h1
    · rename_i hs; rwa [if_pos hs]
    · rename_i hs
      rw [if_neg hs]
      have : rcvOf c s' ≠ e := fun h' => h2 (rcvOf_inj (h'.trans (rcvOf_srcOf c (d := e) (by omega)).symm))
      omega
  · unfold rowsV; rw [if_neg hne]; exact hw

/-! ## Waiting for the sends -/

theorem step_waitS {α : Type} (hu : u < 32) {C : Prop} [Decidable C] (hC : C ↔ blkOf c u ≠ c)
    {ss : C → DmaSem sig} (hss : ∀ h, ss h = sendS (blkOf c u)) {sp sp' : Space} {s s' : Shape} {e₁ e₂ : EltTy}
    {src : C → Memref sig .tc sp' s' e₂} {dst : C → Memref sig .tc sp s e₁} (hamt : ∀ h, (dst h).view.dmaCredit = N)
    {hsrc : ∀ h, (src h).view.WordExact} {hdst : ∀ h, (dst h).view.WordExact}
    {J : Prog (TpuEff nD τ sig (Elt F) Λ₀ .tc) α} {Q : α → sProp 𝕄}
    (h : ST m K c 31 bar p q o a 32 (u + 1) d e ⊢ W c J Q) :
    ST m K c 31 bar p q o a 32 u d e ⊢ W c (dite C
      (fun h => Prog.lift (.waitDma2 (ss h) (src h) (dst h) (hsrc h) (hdst h)) >>= fun _ => J) (fun _ => J)) Q := by
  have hst := stepOf_blkOf c hu
  by_cases hc : C
  · rw [dif_pos hc]
    have hb := hC.mp hc
    have hss := hss hc
    have hamt := hamt hc
    generalize ss hc = ss' at hss ⊢
    subst hss
    refine seqI ?_
    unfold ST Base Owe Prog.lift
    iintro ⟨⟨#HR, #HL, HB⟩, HO, ⟨%X, Hw⟩, Hs, Hbr, HLd, HBk, Hr⟩
    ihave HI := (recs_at m K c (some (.inr (.inl (blkOf c u))))) $$ HR
    icases HI with ⟨#HI, -⟩
    ihave HBk := (blk_focus m c (blkOf c u) (a' := a) (t' := 32) (u' := u + 1) fun n hn => ⟨Iff.rfl, Iff.rfl, by omega⟩) $$ HBk
    unfold Bk
    rw [if_neg hb, if_neg (by omega), if_pos (by omega), if_neg hb, if_pos (by omega)]
    icases HBk with ⟨⟨Hc, Hat⟩, Hk⟩
    iapply (Rounds.wp_wait_rest_token 𝒱₀ ER (Rd m) (c : Thread nD τ) none (κ := K (c, some (.inr (.inl (blkOf c u)))))
        (wpE_waitDma2_eq 𝒱₀ (c : Thread nD τ) none Set.univ) (Set.mem_univ _) () (O := owe c 31 32) (W := X) (R := 0) (m := 0) (T := ∅)
        (by rw [Nat.zero_add, expect_send m c hb, hamt])) $$ [Hc Hw Hat]
    · isplitr; · iexact HI
      isplitl [Hc]; · rw [hamt]; iexact Hc
      isplitl [Hw]; · iexact Hw
      isplitr; · rw [owe_done, MayWait_zero]; iempintro
      iexact Hat
    iintro ⟨Hw, Hat, -, Hpay⟩
    ihave Hp := (Entails.of_eq (rest_send m c hb)) $$ Hpay
    imod (Rounds.cell_close ER (Rd m) (Set.mem_univ (K (c, some (.inr (.inl (blkOf c u)))))) (fun h => h) (R := 0 + 1) (later_send m c (blkOf c u))) $$ [Hat] with Hz
    · isplitr; · iexact HI
      iexact Hat
    iapply (retI (c := c) (v := PUnit.unit) (Q := fun _ => W c J Q) h)
    unfold ST Base Owe
    iframe # ∗
    isplitl [Hw]; · iexists _; iexact Hw
    iapply Hk
    iframe # ∗
  · rw [dif_neg hc]
    have he : blkOf c u = c := by by_contra hn; exact hc (hC.mpr hn)
    have hx : ST m K c 31 bar p q o a 32 u d e ⊢ ST m K c 31 bar p q o a 32 (u + 1) d e := by
      unfold ST
      iintro ⟨HB, HO, Hw, Hs, Hb, HLd, HBk, Hr⟩
      ihave HBk := (blk_focus m c (blkOf c u) (a' := a) (t' := 32) (u' := u + 1) fun n hn => ⟨Iff.rfl, Iff.rfl, by omega⟩) $$ HBk
      rw [he]
      unfold Bk
      rw [if_pos rfl, if_pos rfl]
      icases HBk with ⟨HBk, Hk⟩
      iframe # ∗
      iapply Hk
      iexact HBk
    exact hx.trans h

end Steps

end Cert.KernelIdealProof

end
-- ==== Proof.KernelIdealRun.lean ====
/-
# The statements as the body writes them

Each lemma is a lemma of the steps, stated for what the body's own functions of the device give:
an offset, a condition or a device number is a function of the device, and what the step needs to
know of it is a statement about all devices that can be decided.
-/
module

public import proofs.«01_k».proof.Proof.KernelIdealSteps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

variable (K : Dev nD × CellIx → ℕ) (c : Dev nD)
variable {g p q o a t u d e : ℕ} {bar : Bool}

/-- The statement is one operation. -/
theorem opI {α : Type} {P : sProp 𝕄} {op : TpuEff nD τ sig (Elt F) Λ₀ .tc α} {Q : α → sProp 𝕄} (h : P ⊢ W c (Prog.lift op) Q) :
    P ⊢ W c (Prog.lift op) Q := h

/-- The statement is a choice. -/
theorem iteI {α : Type} {P : sProp 𝕄} {C : Prop} {D : Decidable C} {p : C → Prog (TpuEff nD τ sig (Elt F) Λ₀ .tc) α}
    {p' : ¬ C → Prog (TpuEff nD τ sig (Elt F) Λ₀ .tc) α} {Q : α → sProp 𝕄} (h : P ⊢ W c (dite C p p') Q) : P ⊢ W c (dite C p p') Q := h

/-- The device asks which it is. -/
theorem run_device {P : sProp 𝕄} {Q : Dev nD → sProp 𝕄} (h : P ⊢ Q c) : P ⊢ W c (Prog.lift .deviceId) Q := by
  unfold W Prog.lift
  rw [wp_deviceId]
  exact retI h

/-- The next signal goes to the device the ring names. -/
theorem run_signal (hg : g < 31) {dn : Dev nD → ℕ} {dlt : ∀ c, dn c < nD} (hdv : ∀ c, dn c = (sigDev c g).val) {Q : PUnit → sProp 𝕄}
    (h : ST m K c (g + 1) bar p q o a t u d e ⊢ Q ⟨⟩) :
    ST m K c g bar p q o a t u d e ⊢ W c (semSignalWord (⟨dn c, dlt c⟩ : Dev nD) barS 1#32) Q :=
  step_signal m K c hg (Fin.ext (hdv c)) h

/-- The first scale is read. -/
theorem run_scaleX {h1 : S1.numel = 1} {hp : EltTy.packing (.f32) = 1} {Q : Elt F .f32 → sProp 𝕄}
    (h : ST m K c g bar p q o a t u d e ⊢ Q ((sxM.access (Rect.unit (s := S1) ![0] S1.size inb_S1_S1_0)).read (Elt F) (sxV m c) (Shape.Idx.first (s := S1) (h1.symm ▸ Nat.one_pos)))) :
    ST m K c g bar p q o a t u d e ⊢ W c (smemLoad sxM (Rect.unit (s := S1) ![0] S1.size inb_S1_S1_0) h1 hp) Q :=
  step_scaleX m K c h

/-- The second scale is read. -/
theorem run_scaleW {h1 : S1.numel = 1} {hp : EltTy.packing (.f32) = 1} {Q : Elt F .f32 → sProp 𝕄}
    (h : ST m K c g bar p q o a t u d e ⊢ Q ((swM.access (Rect.unit (s := S1) ![0] S1.size inb_S1_S1_0)).read (Elt F) (swV m c) (Shape.Idx.first (s := S1) (h1.symm ▸ Nat.one_pos)))) :
    ST m K c g bar p q o a t u d e ⊢ W c (smemLoad swM (Rect.unit (s := S1) ![0] S1.size inb_S1_S1_0) h1 hp) Q :=
  step_scaleW m K c h

/-- The next load of a chunk of `w` starts. -/
theorem run_enq (hp8 : p < 8) (hq : cnt ⟨p % 2, Nat.mod_lt p two_pos⟩ q = p / 2)
    {off : Dev nD → BitVec 32 → Fin 2 → ℕ} {v : BitVec 32} {inb} (ho : ∀ c, off c v = ![0, 256 * (chkAt c p).val]) {off2 : Fin 3 → ℕ} {inb2} (ho2 : off2 = ![p % 2, 0, 0])
    {off3 : Fin 1 → ℕ} {inb3} (hs : off3 = ![p % 2]) {hsrc hdst hsem} {Q : PUnit → sProp 𝕄}
    (h : ST m K c g bar (p + 1) q o a t u d e ⊢ Q ⟨⟩) :
    ST m K c g bar p q o a t u d e ⊢ W c (Prog.lift (.enqueueDma
      (wM.slice (Rect.unit (s := S4096x2048) (off c v) S4096x256.size inb) (fun _ => rfl))
      (.here ((bufM.slice (Rect.unit (s := S2x4096x256) off2 S1x4096x256.size inb2) (fun _ => rfl)).squeeze (s := S1x4096x256) S4096x256 squeezes_S1x4096x256_S4096x256))
      (.dma ((cc0_scratch3.slice (Rect.unit (s := S2) off3 S1.size inb3)).squeeze (s := S1) S_ squeezes_S1_S_).sem) hsrc hdst hsem)) Q :=
  step_enq m K c ⟨p % 2, Nat.mod_lt p two_pos⟩ (r := p / 2) (by omega) (by show p = 2 * (p / 2) + p % 2; omega) hq (ho c) ho2
    (load_sem ⟨p % 2, Nat.mod_lt p two_pos⟩ hs inb3) h

/-- The device waits for the next chunk of `w`. -/
theorem run_waitL (hq8 : q < 8) (hp : cnt ⟨q % 2, Nat.mod_lt q two_pos⟩ p = q / 2 + 1)
    {off3 : Fin 1 → ℕ} {inb3} (hs : off3 = ![q % 2]) {sp' : Space} {s' : Shape} {e₂ : EltTy} {src : Memref sig .tc sp' s' e₂}
    {off2 : Fin 3 → ℕ} {inb2} {hsrc : src.view.WordExact}
    {hdst : ((bufM.slice (Rect.unit (s := S2x4096x256) off2 S1x4096x256.size inb2) (fun _ => rfl)).squeeze (s := S1x4096x256) S4096x256 squeezes_S1x4096x256_S4096x256).view.WordExact}
    {Q : PUnit → sProp 𝕄} (h : ST m K c g bar p (q + 1) o a t u d e ⊢ Q ⟨⟩) :
    ST m K c g bar p q o a t u d e ⊢ W c (Prog.lift (.waitDma2
      ((cc0_scratch3.slice (Rect.unit (s := S2) off3 S1.size inb3)).squeeze (s := S1) S_ squeezes_S1_S_).sem src
      ((bufM.slice (Rect.unit (s := S2x4096x256) off2 S1x4096x256.size inb2) (fun _ => rfl)).squeeze (s := S1x4096x256) S4096x256 squeezes_S1x4096x256_S4096x256) hsrc hdst)) Q :=
  step_waitL m K c ⟨q % 2, Nat.mod_lt q two_pos⟩ (r := q / 2) (by omega) (by show q = 2 * (q / 2) + q % 2; omega) hp
    (load_sem ⟨q % 2, Nat.mod_lt q two_pos⟩ hs inb3) half_credit h

/-- The chunk last waited for is read. -/
theorem run_loadL (h0 : 0 < q) (hq : cnt ⟨(q - 1) % 2, Nat.mod_lt _ two_pos⟩ q = (q - 1) / 2 + 1)
    (hp : cnt ⟨(q - 1) % 2, Nat.mod_lt _ two_pos⟩ p = (q - 1) / 2 + 1)
    {off : Fin 3 → ℕ} {inb} (ho : off = ![(q - 1) % 2, 0, 0]) {hl : bufM.view.LoadsAt (Rect.unit (s := S2x4096x256) off S1x4096x256.size inb).toLoadRect}
    {Q : Vec F S1x4096x256 .f32 → sProp 𝕄}
    (h : ST m K c g bar p q o a t u d e ⊢ Q (halfV m c (chkAt c (q - 1)))) :
    ST m K c g bar p q o a t u d e ⊢ W c (Prog.lift (.load bufM (Rect.unit (s := S2x4096x256) off S1x4096x256.size inb).toLoadRect hl)) Q :=
  step_loadL m K c ⟨(q - 1) % 2, Nat.mod_lt _ two_pos⟩ (r := (q - 1) / 2) hq hp ho
    (by rw [show 2 * ((q - 1) / 2) + ((⟨(q - 1) % 2, Nat.mod_lt _ two_pos⟩ : Fin 2) : ℕ) = q - 1 from by show 2 * ((q - 1) / 2) + (q - 1) % 2 = q - 1; omega]; exact h)

/-- The block of the next step is written to the device's own rows if it is its own. -/
theorem run_own {α : Type} (h32 : o < 32) {C : Dev nD → BitVec 1} (hC : ∀ c, C c = 1#1 ↔ blkOf c o = c)
    {off : Dev nD → Fin 2 → ℕ} {inb : ∀ c, C c = 1#1 → ∀ a : Fin S4096x64.rank, off c a + S128x64.size a ≤ S4096x64.size a}
    (ho : ∀ c, C c = 1#1 → off c = ![128 * c.val, 0])
    {w : FVec F S128x64 .f32} (hw : w = blockAt m c (chkAt c (o / 4)) ⟨o % 4, Nat.mod_lt o four_pos⟩)
    {hl : ∀ h : C c = 1#1, oM.view.LoadsAt (Rect.unit (s := S4096x64) (off c) S128x64.size (inb c h)).toLoadRect}
    {hx : ∀ h : C c = 1#1, (oM.access (Rect.unit (s := S4096x64) (off c) S128x64.size (inb c h))).Stores Finset.univ}
    {hm : ∀ h : C c = 1#1, (Finset.univ : Finset (Rect.unit (s := S4096x64) (off c) S128x64.size (inb c h)).shape.Idx) = Finset.univ
      ∨ ∀ a, (Rect.unit (s := S4096x64) (off c) S128x64.size (inb c h)).stride a = 1}
    {J : Prog (TpuEff nD τ sig (Elt F) Λ₀ .tc) α} {Q : α → sProp 𝕄}
    (h : ST m K c g bar p q (o + 1) a t u d e ⊢ W c J Q) :
    ST m K c g bar p q o a t u d e ⊢ W c (dite (C c = 1#1)
      (fun h => Bind.bind (α := Vec F S128x64 .f32) (Prog.lift (.load oM (Rect.unit (s := S4096x64) (off c) S128x64.size (inb c h)).toLoadRect (hl h))) fun _ =>
        Prog.lift (.store oM (Rect.unit (s := S4096x64) (off c) S128x64.size (inb c h)) w Finset.univ (hx h) (hm h)) >>= fun _ => J)
      (fun _ => J)) Q :=
  step_own m K c (i := ⟨o % 4, Nat.mod_lt o four_pos⟩) (j := o / 4) (by omega) (by show o = 4 * (o / 4) + o % 4; omega) (hC c) (ho c) hw h

/-- The outgoing slot of the next block is looked at before it is written. -/
theorem run_loadS (ha : a < 32) (hta : t ≤ a) (hua : u ≤ a) {off : Dev nD → BitVec 32 → BitVec 32 → Fin 3 → ℕ} {v v' : BitVec 32} {inb} (ho : ∀ c, off c v v' = ![(blkOf c a).val, 0, 0])
    {hl : sndM.view.LoadsAt (Rect.unit (s := S32x128x64) (off c v v') S1x128x64.size inb).toLoadRect}
    {Q : Vec F S1x128x64 .bf16 → sProp 𝕄} (h : ∀ f, ST m K c g bar p q o a t u d e ⊢ Q f) :
    ST m K c g bar p q o a t u d e ⊢ W c (Prog.lift (.load sndM (Rect.unit (s := S32x128x64) (off c v v') S1x128x64.size inb).toLoadRect hl)) Q :=
  step_loadS m K c ha hta hua (ho c) h

/-- The next block is written to its outgoing slot. -/
theorem run_storeS (ha : a < 32) (hta : t ≤ a) (hua : u ≤ a) {off : Dev nD → BitVec 32 → BitVec 32 → Fin 3 → ℕ} {v v' : BitVec 32} {inb}
    (ho : ∀ c, off c v v' = ![(blkOf c a).val, 0, 0]) {w : FVec F S1x128x64 .bf16} (hw : w = sentAt m c (chkAt c (a / 4)) ⟨a % 4, Nat.mod_lt a four_pos⟩)
    {hx : (sndM.access (Rect.unit (s := S32x128x64) (off c v v') S1x128x64.size inb)).Stores Finset.univ} {hm}
    {Q : PUnit → sProp 𝕄} (h : ST m K c g bar p q o (a + 1) t u d e ⊢ Q ⟨⟩) :
    ST m K c g bar p q o a t u d e ⊢ W c (Prog.lift (.store sndM (Rect.unit (s := S32x128x64) (off c v v') S1x128x64.size inb) w Finset.univ hx hm)) Q :=
  step_storeS m K c (i := ⟨a % 4, Nat.mod_lt a four_pos⟩) (j := a / 4) (by omega) (by show a = 4 * (a / 4) + a % 4; omega) hta hua (ho c) hw h

/-- The next block goes to the device it belongs to, if that is another. -/
theorem run_send {α : Type} (ht : t < 32) (hta : t < a) (hut : u ≤ t) {C : Dev nD → BitVec 1} (hC : ∀ c, C c = 1#1 ↔ blkOf c t ≠ c)
    {dn : Dev nD → ℕ} {dlt : ∀ c, C c = 1#1 → dn c < nD} (hdv : ∀ c, C c = 1#1 → dn c = (blkOf c t).val)
    {offs offr : Dev nD → Fin 1 → ℕ} {inbs : ∀ c, C c = 1#1 → ∀ a : Fin S32.rank, offs c a + S1.size a ≤ S32.size a}
    {inbr : ∀ c, C c = 1#1 → ∀ a : Fin S32.rank, offr c a + S1.size a ≤ S32.size a}
    (hss : ∀ c, C c = 1#1 → offs c = ![(blkOf c t).val]) (hrs : ∀ c, C c = 1#1 → offr c = ![c.val])
    {off off' : Dev nD → Fin 3 → ℕ} {inb : ∀ c, C c = 1#1 → ∀ a : Fin S32x128x64.rank, off c a + S1x128x64.size a ≤ S32x128x64.size a}
    {inb' : ∀ c, C c = 1#1 → ∀ a : Fin S32x128x64.rank, off' c a + S1x128x64.size a ≤ S32x128x64.size a}
    (ho : ∀ c, C c = 1#1 → off c = ![c.val, 0, 0]) (ho' : ∀ c, C c = 1#1 → off' c = ![(blkOf c t).val, 0, 0])
    {hsc : ∀ h : C c = 1#1, ((rcvM.slice (Rect.unit (s := S32x128x64) (off c) S1x128x64.size (inb c h)) (fun _ => rfl)).squeeze (s := S1x128x64) S128x64 squeezes_S1x128x64_S128x64).view.ref.isScScratch = false}
    {hsrc : ∀ h : C c = 1#1, ((sndM.slice (Rect.unit (s := S32x128x64) (off' c) S1x128x64.size (inb' c h)) (fun _ => rfl)).squeeze (s := S1x128x64) S128x64 squeezes_S1x128x64_S128x64).view.WordExact}
    {hdst : ∀ h : C c = 1#1, ((rcvM.slice (Rect.unit (s := S32x128x64) (off c) S1x128x64.size (inb c h)) (fun _ => rfl)).squeeze (s := S1x128x64) S128x64 squeezes_S1x128x64_S128x64).view.WordExact}
    {hsem : ∀ h : C c = 1#1, DmaTarget.Typed .vmem (.dma ((cc0_scratch5.slice (Rect.unit (s := S32) (offr c) S1.size (inbr c h))).squeeze (s := S1) S_ squeezes_S1_S_).sem)
      (.remote (Dev.tc (⟨dn c, dlt c h⟩ : Dev nD) : Thread nD τ)
      ((rcvM.slice (Rect.unit (s := S32x128x64) (off c) S1x128x64.size (inb c h)) (fun _ => rfl)).squeeze (s := S1x128x64) S128x64 squeezes_S1x128x64_S128x64)
      (.dma ((cc0_scratch4.slice (Rect.unit (s := S32) (offs c) S1.size (inbs c h))).squeeze (s := S1) S_ squeezes_S1_S_).sem) (hsc h) : DmaTarget nD τ sig .tc .vmem S128x64 .bf16)}
    {J : Prog (TpuEff nD τ sig (Elt F) Λ₀ .tc) α} {Q : α → sProp 𝕄}
    (h : ST m K c 31 true p q o a (t + 1) u d e ⊢ W c J Q) :
    ST m K c 31 true p q o a t u d e ⊢ W c (dite (C c = 1#1)
      (fun h => Prog.lift (.enqueueDma ((sndM.slice (Rect.unit (s := S32x128x64) (off' c) S1x128x64.size (inb' c h)) (fun _ => rfl)).squeeze (s := S1x128x64) S128x64 squeezes_S1x128x64_S128x64)
        (.remote (Dev.tc (⟨dn c, dlt c h⟩ : Dev nD))
          ((rcvM.slice (Rect.unit (s := S32x128x64) (off c) S1x128x64.size (inb c h)) (fun _ => rfl)).squeeze (s := S1x128x64) S128x64 squeezes_S1x128x64_S128x64)
          (.dma ((cc0_scratch4.slice (Rect.unit (s := S32) (offs c) S1.size (inbs c h))).squeeze (s := S1) S_ squeezes_S1_S_).sem) (hsc h))
        (.dma ((cc0_scratch5.slice (Rect.unit (s := S32) (offr c) S1.size (inbr c h))).squeeze (s := S1) S_ squeezes_S1_S_).sem) (hsrc h) (hdst h) (hsem h)) >>= fun _ => J)
      (fun _ => J)) Q :=
  step_send m K c ht hta hut (hC c) (dv := fun h => ⟨dn c, dlt c h⟩) (fun h => Fin.ext (hdv c h))
    (ss := fun h => ((cc0_scratch4.slice (Rect.unit (s := S32) (offs c) S1.size (inbs c h))).squeeze (s := S1) S_ squeezes_S1_S_).sem)
    (rs := fun h => ((cc0_scratch5.slice (Rect.unit (s := S32) (offr c) S1.size (inbr c h))).squeeze (s := S1) S_ squeezes_S1_S_).sem)
    (fun h => send_sem _ (hss c h) _) (fun h => recv_sem _ (hrs c h) _) (ho c) (ho' c) h

/-- The device waits for the next block that is due. -/
theorem run_waitR (hd : d < 31) {offr : Dev nD → BitVec 32 → Fin 1 → ℕ} {v : BitVec 32} {inbr : ∀ a : Fin S32.rank, offr c v a + S1.size a ≤ S32.size a}
    (hs : ∀ c, offr c v = ![(srcOf c d).val]) {sp' : Space} {s' : Shape} {e₂ : EltTy} {src : Memref sig .tc sp' s' e₂}
    {off : Fin 3 → ℕ} {inb : ∀ a : Fin S32x128x64.rank, off a + S1x128x64.size a ≤ S32x128x64.size a} {hsrc : src.view.WordExact}
    {hdst : ((rcvM.slice (Rect.unit (s := S32x128x64) off S1x128x64.size inb) (fun _ => rfl)).squeeze (s := S1x128x64) S128x64 squeezes_S1x128x64_S128x64).view.WordExact}
    {Q : PUnit → sProp 𝕄} (h : ST m K c 31 bar p q o a 32 u (d + 1) e ⊢ Q ⟨⟩) :
    ST m K c 31 bar p q o a 32 u d e ⊢ W c (Prog.lift (.waitDma2
      ((cc0_scratch5.slice (Rect.unit (s := S32) (offr c v) S1.size inbr)).squeeze (s := S1) S_ squeezes_S1_S_).sem src
      ((rcvM.slice (Rect.unit (s := S32x128x64) off S1x128x64.size inb) (fun _ => rfl)).squeeze (s := S1x128x64) S128x64 squeezes_S1x128x64_S128x64) hsrc hdst)) Q :=
  step_waitR m K c hd (recv_sem _ (hs c) _) rcv_credit h

/-- The block last waited for is read. -/
theorem run_loadR (h0 : 0 < d) (hn : d - 1 < 31) {off : Dev nD → BitVec 32 → Fin 3 → ℕ} {v : BitVec 32} {inb} (ho : ∀ c, off c v = ![(srcOf c (d - 1)).val, 0, 0])
    {hl : rcvM.view.LoadsAt (Rect.unit (s := S32x128x64) (off c v) S1x128x64.size inb).toLoadRect}
    {Q : Vec F S1x128x64 .bf16 → sProp 𝕄} (h : ST m K c g bar p q o a t u d e ⊢ Q (sentV m (srcOf c (d - 1)) c)) :
    ST m K c g bar p q o a t u d e ⊢ W c (Prog.lift (.load rcvM (Rect.unit (s := S32x128x64) (off c v) S1x128x64.size inb).toLoadRect hl)) Q :=
  step_loadR m K c hn (by omega) (ho c) h

/-- The next block that came is written to its rows. -/
theorem run_putR (he : e < 31) {w : FVec F S128x64 .f32} (hw : w = k0_pay93 (sentV m (srcOf c e) c))
    {off : Dev nD → BitVec 32 → Fin 2 → ℕ} {v : BitVec 32} {inb} (ho : ∀ c, off c v = ![128 * (srcOf c e).val, 0])
    {hx : (oM.access (Rect.unit (s := S4096x64) (off c v) S128x64.size inb)).Stores Finset.univ} {hm}
    {Q : PUnit → sProp 𝕄} (h : ST m K c g bar p q o a t u d (e + 1) ⊢ Q ⟨⟩) :
    ST m K c g bar p q o a t u d e ⊢ W c (Prog.lift (.store oM (Rect.unit (s := S4096x64) (off c v) S128x64.size inb) w Finset.univ hx hm)) Q :=
  step_putR m K c he hw (ho c) h

/-- The device waits until the next block it sent has left. -/
theorem run_waitS {α : Type} (hu : u < 32) {C : Dev nD → BitVec 1} (hC : ∀ c, C c = 1#1 ↔ blkOf c u ≠ c)
    {offs : Dev nD → Fin 1 → ℕ} {inbs : ∀ c, C c = 1#1 → ∀ a : Fin S32.rank, offs c a + S1.size a ≤ S32.size a}
    (hss : ∀ c, C c = 1#1 → offs c = ![(blkOf c u).val]) {sp' : Space} {s' : Shape} {e₂ : EltTy}
    {src : C c = 1#1 → Memref sig .tc sp' s' e₂}
    {off' : Dev nD → Fin 3 → ℕ} {inb' : ∀ c, C c = 1#1 → ∀ a : Fin S32x128x64.rank, off' c a + S1x128x64.size a ≤ S32x128x64.size a}
    {hsrc : ∀ h, (src h).view.WordExact}
    {hdst : ∀ h : C c = 1#1, ((sndM.slice (Rect.unit (s := S32x128x64) (off' c) S1x128x64.size (inb' c h)) (fun _ => rfl)).squeeze (s := S1x128x64) S128x64 squeezes_S1x128x64_S128x64).view.WordExact}
    {J : Prog (TpuEff nD τ sig (Elt F) Λ₀ .tc) α} {Q : α → sProp 𝕄}
    (h : ST m K c 31 bar p q o a 32 (u + 1) d e ⊢ W c J Q) :
    ST m K c 31 bar p q o a 32 u d e ⊢ W c (dite (C c = 1#1)
      (fun h => Prog.lift (.waitDma2 ((cc0_scratch4.slice (Rect.unit (s := S32) (offs c) S1.size (inbs c h))).squeeze (s := S1) S_ squeezes_S1_S_).sem (src h)
        ((sndM.slice (Rect.unit (s := S32x128x64) (off' c) S1x128x64.size (inb' c h)) (fun _ => rfl)).squeeze (s := S1x128x64) S128x64 squeezes_S1x128x64_S128x64) (hsrc h) (hdst h)) >>= fun _ => J)
      (fun _ => J)) Q :=
  step_waitS m K c hu (hC c) (ss := fun h => ((cc0_scratch4.slice (Rect.unit (s := S32) (offs c) S1.size (inbs c h))).squeeze (s := S1) S_ squeezes_S1_S_).sem)
    (fun h => send_sem _ (hss c h) _) (dst := fun h => (sndM.slice (Rect.unit (s := S32x128x64) (off' c) S1x128x64.size (inb' c h)) (fun _ => rfl)).squeeze (s := S1x128x64) S128x64 squeezes_S1x128x64_S128x64)
    (fun h => snd_credit) h

end Cert.KernelIdealProof
-- ==== Proof.KernelIdealBody.lean ====
/-
# The whole kernel body on a device

The program is a straight line of statements, each of which has its rule in the previous modules. The proof below walks
along it: at every statement the one rule that fits is applied, and its side conditions, statements about the thirty-two
devices, are decided.
-/
module

public import proofs.«01_k».proof.Proof.KernelIdealRun

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

variable (K : Dev nD × CellIx → ℕ) (c : Dev nD)

set_option maxHeartbeats 20000000 in
/-- The body takes device `c` from the state in which nothing is done to the state in which everything is. -/
theorem run_body {hx hw hs hs2 ho hb hn hr} {Q : PUnit → sProp 𝕄} (h : ST m K c 31 true 8 8 32 32 32 32 31 31 ⊢ Q ⟨⟩) :
    ST m K c 0 false 0 0 0 0 0 0 0 0
      ⊢ W c (cc0_body xM hx wM hw sxM hs swM hs2 oM ho bufM hb sndM hn rcvM hr cc0_scratch3 cc0_scratch4 cc0_scratch5) Q := by
  rw [cc0_body_eq_skeleton]
  unfold cc0_body_skel
  rw [k0_part56_eq_skeleton]
  with_reducible refine seqI ?_
  unfold k0_part56_skel
  rw [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton,
    k0_part15_eq_skeleton, k0_part16_eq_skeleton, k0_part17_eq_skeleton, k0_part18_eq_skeleton,
    k0_part19_eq_skeleton, k0_part20_eq_skeleton, k0_part21_eq_skeleton, k0_part22_eq_skeleton,
    k0_part23_eq_skeleton, k0_part24_eq_skeleton, k0_part25_eq_skeleton, k0_part26_eq_skeleton,
    k0_part27_eq_skeleton, k0_part28_eq_skeleton, k0_part29_eq_skeleton, k0_part30_eq_skeleton,
    k0_part31_eq_skeleton, k0_part32_eq_skeleton, k0_part33_eq_skeleton, k0_part34_eq_skeleton,
    k0_part35_eq_skeleton, k0_part36_eq_skeleton, k0_part37_eq_skeleton, k0_part38_eq_skeleton,
    k0_part39_eq_skeleton, k0_part40_eq_skeleton, k0_part41_eq_skeleton, k0_part42_eq_skeleton,
    k0_part43_eq_skeleton, k0_part44_eq_skeleton, k0_part45_eq_skeleton, k0_part46_eq_skeleton,
    k0_part47_eq_skeleton, k0_part48_eq_skeleton, k0_part49_eq_skeleton, k0_part50_eq_skeleton,
    k0_part51_eq_skeleton, k0_part52_eq_skeleton, k0_part53_eq_skeleton, k0_part54_eq_skeleton,
    k0_part55_eq_skeleton]
  repeat
   first
   | with_reducible refine seqI ?_
   | with_reducible refine pureI ?_
   | with_reducible refine run_device c ?_
   | with_reducible refine run_signal m K c (by decide) (by decide +kernel) ?_
   | first | delta k0_part1_skel | delta k0_part2_skel | delta k0_part3_skel | delta k0_part4_skel | delta k0_part5_skel
       | delta k0_part6_skel | delta k0_part7_skel | delta k0_part8_skel | delta k0_part9_skel | delta k0_part10_skel
       | delta k0_part11_skel | delta k0_part12_skel | delta k0_part13_skel
  refine run_scaleX m K c ?_
  refine seqI ?_
  refine run_scaleW m K c ?_
  repeat
   first
   | with_reducible refine seqI ?_
   | with_reducible refine pureI ?_
   | (with_reducible refine step_loadX m K c ?_)
   | ((with_reducible refine run_enq m K c ?_ ?_ ?_ ?_ ?_ ?_)
      (· decide); (· decide); (· decide +kernel); (· exact rfl); (· exact rfl))
   | ((with_reducible refine run_waitL m K c ?_ ?_ ?_ ?_); (· decide); (· decide); (· exact rfl))
   | ((with_reducible refine run_loadL m K c ?_ ?_ ?_ ?_ ?_); (· decide); (· decide); (· decide); (· exact rfl))
   | (with_reducible refine step_bar m K c ?_)
   | ((with_reducible refine iteI c ?_)
      (with_reducible refine run_own m K c ?_ ?_ ?_ ?_ ?_)
      (· decide); (· decide +kernel); (· decide +kernel); (· exact rfl))
   | ((with_reducible refine run_loadS m K c ?_ ?_ ?_ ?_ ?_)
      (· decide); (· decide); (· decide); (· decide +kernel); intro _)
   | ((with_reducible refine run_storeS m K c ?_ ?_ ?_ ?_ ?_ ?_)
      (· decide); (· decide); (· decide); (· decide +kernel); (· exact rfl))
   | ((with_reducible refine iteI c ?_)
      (with_reducible refine run_send m K c ?_ ?_ ?_ ?_ ?_ ?_ ?_ ?_ ?_ ?_)
      (· decide); (· decide); (· decide); (· decide +kernel); (· decide +kernel)
      (· decide +kernel); (· decide +kernel); (· decide +kernel); (· decide +kernel))
   | ((with_reducible refine run_waitR m K c ?_ ?_ ?_); (· decide); (· decide +kernel))
   | ((with_reducible refine run_loadR m K c ?_ ?_ ?_ ?_); (· decide); (· decide); (· decide +kernel))
   | ((with_reducible refine step_loadO m K c ?_); intro _)
   | ((with_reducible refine run_putR m K c ?_ ?_ ?_ ?_); (· decide); (· exact rfl); (· decide +kernel))
   | ((with_reducible refine iteI c ?_)
      (with_reducible refine run_waitS m K c ?_ ?_ ?_ ?_)
      (· decide); (· decide +kernel); (· decide +kernel))
   | first | delta k0_part14_skel | delta k0_part15_skel | delta k0_part16_skel | delta k0_part17_skel | delta k0_part18_skel
       | delta k0_part19_skel | delta k0_part20_skel | delta k0_part21_skel | delta k0_part22_skel
       | delta k0_part23_skel | delta k0_part24_skel | delta k0_part25_skel | delta k0_part26_skel
       | delta k0_part27_skel | delta k0_part28_skel | delta k0_part29_skel | delta k0_part30_skel
       | delta k0_part31_skel | delta k0_part32_skel | delta k0_part33_skel | delta k0_part34_skel
       | delta k0_part35_skel | delta k0_part36_skel | delta k0_part37_skel | delta k0_part38_skel
       | delta k0_part39_skel | delta k0_part40_skel | delta k0_part41_skel | delta k0_part42_skel
       | delta k0_part43_skel | delta k0_part44_skel | delta k0_part45_skel | delta k0_part46_skel
       | delta k0_part47_skel | delta k0_part48_skel | delta k0_part49_skel | delta k0_part50_skel
       | delta k0_part51_skel | delta k0_part52_skel | delta k0_part53_skel | delta k0_part54_skel
       | delta k0_part55_skel
  refine h

end Cert.KernelIdealProof

end
-- ==== Proof.KernelIdealEnd.lean ====
/-
# What a device holds before and after the body

Before the body a device holds its buffers whole, its positions in its own cells, the credits of its barrier cell and of
its receive cells, and the rights to pay what it will pay: these make the state in which nothing is done. From the state
in which everything is done it closes its cells, every counter at zero, and joins the slots of its buffers again.
-/
module

public import proofs.«01_k».proof.Proof.KernelIdealBody
public import Idealize.ShloMosaic.Lib.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The buffers as families of slots -/

section Slots

theorem slots_disjoint (b b' : Dev nD) (h : b ≠ b') : Disjoint (slotR b).set (slotR b').set :=
  Ring.lead_disjoint (s := S32x128x64) (NB := 32) 0 1 (fun b => ![b.val, 0, 0]) S1x128x64.size slot_inb
    (fun b => (Nat.one_mul _).symm) rfl b b' h
theorem slots_cover : Finset.univ.biUnion (fun b : Dev nD => (slotR b).set) = Finset.univ :=
  Ring.lead_cover (s := S32x128x64) (NB := 32) 0 1 (fun b => ![b.val, 0, 0]) S1x128x64.size slot_inb
    (fun b => (Nat.one_mul _).symm) (fun b a ha => by fin_cases a; exacts [absurd rfl ha, rfl, rfl]) rfl
    (fun a ha => by fin_cases a; exacts [absurd rfl ha, rfl, rfl]) rfl
theorem halves_disjoint (b b' : Fin 2) (h : b ≠ b') : Disjoint (halfR b).set (halfR b').set :=
  Ring.lead_disjoint (s := S2x4096x256) (NB := 2) 0 1 (fun b => ![b.val, 0, 0]) S1x4096x256.size half_inb
    (fun b => (Nat.one_mul _).symm) rfl b b' h
theorem halves_cover : Finset.univ.biUnion (fun b : Fin 2 => (halfR b).set) = Finset.univ :=
  Ring.lead_cover (s := S2x4096x256) (NB := 2) 0 1 (fun b => ![b.val, 0, 0]) S1x4096x256.size half_inb
    (fun b => (Nat.one_mul _).symm) (fun b a ha => by fin_cases a; exacts [absurd rfl ha, rfl, rfl]) rfl
    (fun a ha => by fin_cases a; exacts [absurd rfl ha, rfl, rfl]) rfl

theorem snd_set (b : Dev nD) : (sndM.access (slotR b)).set = (slotR b).set := View.set_slice_whole cc0_scratch1 _
theorem rcv_set (b : Dev nD) : (rcvM.access (slotR b)).set = (slotR b).set := View.set_slice_whole cc0_scratch2 _
theorem buf_set (l : Fin 2) : (bufM.access (halfR l)).set = (halfR l).set := View.set_slice_whole cc0_scratch0 _

omit [FloatOps F] in
theorem snd_of (c : Dev nD) (b : Dev nD) (f : Buf (Elt F) ((c : Thread nD τ).loc cc0_scratch1)) :
    ((c : Thread nD τ).loc cc0_scratch1 ↦[(slotR b).set]{fullShare} f : sProp 𝕄) ⊢ iprop(∃ v, sndPts c b v) := by
  rw [← snd_set]; unfold sndPts
  iintro H; iexists _; iexists f; isplitr; · ipureintro; rfl
  iexact H
omit [FloatOps F] in
theorem snd_to (c : Dev nD) (b : Dev nD) :
    (iprop(∃ v, sndPts c b v) : sProp 𝕄) ⊢ iprop(∃ f : Buf (Elt F) ((c : Thread nD τ).loc cc0_scratch1), (c : Thread nD τ).loc cc0_scratch1 ↦[(slotR b).set]{fullShare} f) := by
  rw [← snd_set]; unfold sndPts
  iintro ⟨%v, %f, -, H⟩; iexists f; iexact H
omit [FloatOps F] in
theorem snd_split (c : Dev nD) (f : Buf (Elt F) ((c : Thread nD τ).loc cc0_scratch1)) :
    ((c : Thread nD τ).loc cc0_scratch1 ↦{fullShare} f : sProp 𝕄) ⊢ bigSep Finset.univ fun b : Dev nD => iprop(∃ v, sndPts c b v) :=
  (Entails.of_eq (Ring.pointsTo_blocks (ℓ := (c : Thread nD τ).loc cc0_scratch1) (fun b : Dev nD => (slotR b).set) slots_disjoint slots_cover f)).trans
    (bigSep_mono fun b _ => snd_of c b f)
omit [FloatOps F] in
theorem rcv_of (c : Dev nD) (b : Dev nD) (f : Buf (Elt F) ((c : Thread nD τ).loc cc0_scratch2)) :
    ((c : Thread nD τ).loc cc0_scratch2 ↦[(slotR b).set]{fullShare} f : sProp 𝕄) ⊢ iprop(∃ v, rcvPts c b v) := by
  rw [← rcv_set]; unfold rcvPts
  iintro H; iexists _; iexists f; isplitr; · ipureintro; rfl
  iexact H
omit [FloatOps F] in
theorem rcv_to (c : Dev nD) (b : Dev nD) :
    (iprop(∃ v, rcvPts c b v) : sProp 𝕄) ⊢ iprop(∃ f : Buf (Elt F) ((c : Thread nD τ).loc cc0_scratch2), (c : Thread nD τ).loc cc0_scratch2 ↦[(slotR b).set]{fullShare} f) := by
  rw [← rcv_set]; unfold rcvPts
  iintro ⟨%v, %f, -, H⟩; iexists f; iexact H
omit [FloatOps F] in
theorem rcv_split (c : Dev nD) (f : Buf (Elt F) ((c : Thread nD τ).loc cc0_scratch2)) :
    ((c : Thread nD τ).loc cc0_scratch2 ↦{fullShare} f : sProp 𝕄) ⊢ bigSep Finset.univ fun b : Dev nD => iprop(∃ v, rcvPts c b v) :=
  (Entails.of_eq (Ring.pointsTo_blocks (ℓ := (c : Thread nD τ).loc cc0_scratch2) (fun b : Dev nD => (slotR b).set) slots_disjoint slots_cover f)).trans
    (bigSep_mono fun b _ => rcv_of c b f)
omit [FloatOps F] in
theorem buf_of (c : Dev nD) (l : Fin 2) (f : Buf (Elt F) ((c : Thread nD τ).loc cc0_scratch0)) :
    ((c : Thread nD τ).loc cc0_scratch0 ↦[(halfR l).set]{fullShare} f : sProp 𝕄) ⊢ iprop(∃ v, bufPts c l v) := by
  rw [← buf_set]; unfold bufPts
  iintro H; iexists _; iexists f; isplitr; · ipureintro; rfl
  iexact H
omit [FloatOps F] in
theorem buf_to (c : Dev nD) (l : Fin 2) :
    (iprop(∃ v, bufPts c l v) : sProp 𝕄) ⊢ iprop(∃ f : Buf (Elt F) ((c : Thread nD τ).loc cc0_scratch0), (c : Thread nD τ).loc cc0_scratch0 ↦[(halfR l).set]{fullShare} f) := by
  rw [← buf_set]; unfold bufPts
  iintro ⟨%v, %f, -, H⟩; iexists f; iexact H
omit [FloatOps F] in
theorem buf_split (c : Dev nD) (f : Buf (Elt F) ((c : Thread nD τ).loc cc0_scratch0)) :
    ((c : Thread nD τ).loc cc0_scratch0 ↦{fullShare} f : sProp 𝕄) ⊢ bigSep Finset.univ fun l : Fin 2 => iprop(∃ v, bufPts c l v) :=
  (Entails.of_eq (Ring.pointsTo_blocks (ℓ := (c : Thread nD τ).loc cc0_scratch0) (fun l : Fin 2 => (halfR l).set) halves_disjoint halves_cover f)).trans
    (bigSep_mono fun l _ => buf_of c l f)

omit [FloatOps F] in
theorem snd_join (c : Dev nD) (f₀ : Buf (Elt F) ((c : Thread nD τ).loc cc0_scratch1)) :
    (bigSep Finset.univ fun b : Dev nD => iprop(∃ v, sndPts c b v) : sProp 𝕄) ⊢ iprop(∃ f : Buf (Elt F) ((c : Thread nD τ).loc cc0_scratch1), (c : Thread nD τ).loc cc0_scratch1 ↦{fullShare} f) :=
  (bigSep_mono fun b _ => snd_to c b).trans
    (Ring.pointsTo_blocks_join_exists (ℓ := (c : Thread nD τ).loc cc0_scratch1) (fun b : Dev nD => (slotR b).set) slots_disjoint slots_cover f₀)
omit [FloatOps F] in
theorem rcv_join (c : Dev nD) (f₀ : Buf (Elt F) ((c : Thread nD τ).loc cc0_scratch2)) :
    (bigSep Finset.univ fun b : Dev nD => iprop(∃ v, rcvPts c b v) : sProp 𝕄) ⊢ iprop(∃ f : Buf (Elt F) ((c : Thread nD τ).loc cc0_scratch2), (c : Thread nD τ).loc cc0_scratch2 ↦{fullShare} f) :=
  (bigSep_mono fun b _ => rcv_to c b).trans
    (Ring.pointsTo_blocks_join_exists (ℓ := (c : Thread nD τ).loc cc0_scratch2) (fun b : Dev nD => (slotR b).set) slots_disjoint slots_cover f₀)
omit [FloatOps F] in
theorem buf_join (c : Dev nD) (f₀ : Buf (Elt F) ((c : Thread nD τ).loc cc0_scratch0)) :
    (bigSep Finset.univ fun l : Fin 2 => iprop(∃ v, bufPts c l v) : sProp 𝕄) ⊢ iprop(∃ f : Buf (Elt F) ((c : Thread nD τ).loc cc0_scratch0), (c : Thread nD τ).loc cc0_scratch0 ↦{fullShare} f) :=
  (bigSep_mono fun l _ => buf_to c l).trans
    (Ring.pointsTo_blocks_join_exists (ℓ := (c : Thread nD τ).loc cc0_scratch0) (fun l : Fin 2 => (halfR l).set) halves_disjoint halves_cover f₀)

/-- `w` whole is `w` at its two half shares. -/
theorem w_halves (c : Dev nD) : ((c : Thread nD τ).loc main_arg1 ↦{fullShare} wV m c : sProp 𝕄) ⊣⊢ bigSep Finset.univ fun l : Fin 2 => wAll m c l := by
  rw [bigSep_fin_two]
  exact pointsTo_share (PosShare.mem_left_op_right fullShare)

end Slots

/-! ## The result -/

/-- The row block that an element of the result lies in, and its place there. -/
def rowIx (i : S4096x64.Idx) : Dev nD := (⟨(i 0).val / 128, by have : (i 0).val < 4096 := (i 0).isLt; omega⟩ : Fin 32)
def inIx (i : S4096x64.Idx) : S128x64.Idx := fun a => match a with
  | 0 => (⟨(i 0).val % 128, Nat.mod_lt _ (by decide)⟩ : Fin 128)
  | 1 => (⟨(i 1).val, (i 1).isLt⟩ : Fin 64)

/-- The result on device `c`, row block by row block. -/
def outV (c : Dev nD) : (cc0_stg3_0 : Ref sig .tc).ty.Contents (Elt F) := fun i => rowsV m c (rowIx i) (inIx i)

theorem row_emb (i : S4096x64.Idx) : (oM.access (rowsR (rowIx i))).emb (inIx i) = i := by
  funext a
  refine Fin.ext ?_
  match a with
  | 0 => show 128 * ((i 0).val / 128) + 1 * ((i 0).val % 128) = (i 0).val; omega
  | 1 => show 0 + 1 * (i 1).val = (i 1).val; omega

/-- Contents that read right in every row block are the result. -/
theorem out_eq (c : Dev nD) (f : (cc0_stg3_0 : Ref sig .tc).ty.Contents (Elt F)) (h : ∀ s, (oM.access (rowsR s)).read (Elt F) f = rowsV m c s) :
    f = outV m c :=
  funext fun i => (congrArg f (row_emb i)).symm.trans (congrFun (h (rowIx i)) (inIx i))

/-! ## The end -/

omit [FloatOps F] in
theorem with_persistent {I : Type} [Fintype I] [DecidableEq I] {R : sProp 𝕄} [BI.Persistent R] {Φ Ψ : I → sProp 𝕄}
    (h : ∀ i, iprop(R ∗ Φ i) ⊢ |={Set.univ}=> Ψ i) : iprop(R ∗ bigSep Finset.univ Φ) ⊢ |={Set.univ}=> bigSep Finset.univ Ψ :=
  ((sep_mono_left (BI.bigSep_of_persistent Finset.univ R)).trans (by rw [← bigSep_sep']; exact bigSep_mono fun i _ => h i)).trans (bigSep_fupd _ _)

omit [FloatOps F] in
theorem mono1 {I : Type} [Fintype I] {Φ Ψ : I → sProp 𝕄} (h : ∀ i, Φ i ⊢ Ψ i) : (bigSep Finset.univ Φ : sProp 𝕄) ⊢ bigSep Finset.univ Ψ :=
  bigSep_mono fun i _ => h i
omit [FloatOps F] in
theorem unsep2 {I : Type} [Fintype I] {Φ₁ Φ₂ : I → sProp 𝕄} :
    (bigSep Finset.univ fun i => iprop(Φ₁ i ∗ Φ₂ i) : sProp 𝕄) ⊢ iprop(bigSep Finset.univ Φ₁ ∗ bigSep Finset.univ Φ₂) := by
  rw [bigSep_sep']
omit [FloatOps F] in
theorem unsep3 {I : Type} [Fintype I] {Φ₁ Φ₂ Φ₃ : I → sProp 𝕄} :
    (bigSep Finset.univ fun i => iprop(Φ₁ i ∗ Φ₂ i ∗ Φ₃ i) : sProp 𝕄) ⊢ iprop(bigSep Finset.univ Φ₁ ∗ bigSep Finset.univ Φ₂ ∗ bigSep Finset.univ Φ₃) := by
  rw [bigSep_sep', bigSep_sep']

/-- A family over all cells of a device, cell kind by cell kind. -/
theorem cells_split (Φ : CellIx → sProp 𝕄) : bigSep Finset.univ Φ
    = iprop(Φ none ∗ (bigSep Finset.univ fun l => Φ (some (.inl l)))
      ∗ (bigSep Finset.univ fun b => Φ (some (.inr (.inl b)))) ∗ bigSep Finset.univ fun s => Φ (some (.inr (.inr s)))) := by
  rw [bigSep_univ_at Φ none, show (Finset.univ.erase none : Finset CellIx) = Finset.univ.map ⟨some, Option.some_injective _⟩ from by
    ext x; cases x <;> simp, bigSep_map, bigSep_univ_sum, bigSep_univ_sum]
  rfl

section End
variable (K : Dev nD × CellIx → ℕ) (c : Dev nD)

theorem end_load (l : Fin 2) : iprop(Recs m K ∗ Ld m c l (cnt l 8) (cnt l 8))
    ⊢ |={Set.univ}=> iprop((∃ v, bufPts c l v) ∗ wAll m c l ∗ semVal (loadCell c l) 0 : sProp 𝕄) := by
  have h4 : cnt l 8 = 4 := by revert l; decide
  unfold Ld
  rw [if_neg (Nat.lt_irrefl _), h4]
  iintro ⟨HR, ⟨%v, -, Hb⟩, Hw, Hat, -⟩
  ihave Hc := (recs_at m K c (some (.inl l))) $$ HR
  icases Hc with ⟨HI, -⟩
  imod (Rounds.cell_close ER (Rd m) (g := loadCell c l) (κ := K (c, some (.inl l))) (Set.mem_univ _) not_false (R := 4) (later_load m c l)) $$ [HI Hat] with Hs
  · isplitl [HI]; · iexact HI
    iexact Hat
  imodintro
  isplitl [Hb]; · iexists v; iexact Hb
  isplitl [Hw] <;> iassumption

theorem end_send (b : Dev nD) : iprop(Recs m K ∗ Bk m c 32 32 32 b)
    ⊢ |={Set.univ}=> iprop((∃ v, sndPts c b v) ∗ semVal (sendCell c b) 0 : sProp 𝕄) := by
  unfold Bk
  by_cases hb : b = c
  · subst hb
    rw [if_pos rfl]
    iintro ⟨HR, Hb, Hat⟩
    ihave Hc := (recs_at m K b (some (.inr (.inl b)))) $$ HR
    icases Hc with ⟨HI, -⟩
    imod (Rounds.cell_close ER (Rd m) (g := sendCell b b) (κ := K (b, some (.inr (.inl b)))) (Set.mem_univ _) not_false (R := 0) (own_send m b)) $$ [HI Hat] with Hs
    · isplitl [HI]; · iexact HI
      iexact Hat
    imodintro
    isplitl [Hb] <;> iassumption
  · rw [if_neg hb, if_pos (stepOf_lt c b)]
    iintro ⟨-, H⟩
    imodintro
    iexact H

theorem end_recv (s : Dev nD) : iprop(Recs m K ∗ Rc m c 31 s)
    ⊢ |={Set.univ}=> iprop((∃ v, rcvPts c s v) ∗ semVal (recvCell c s) 0 : sProp 𝕄) := by
  unfold Rc
  by_cases hb : s = c
  · subst hb
    rw [if_pos rfl]
    iintro ⟨HR, Hb, Hat⟩
    ihave Hc := (recs_at m K s (some (.inr (.inr s)))) $$ HR
    icases Hc with ⟨HI, -⟩
    imod (Rounds.cell_close ER (Rd m) (g := recvCell s s) (κ := K (s, some (.inr (.inr s)))) (Set.mem_univ _) not_false (R := 0) (own_recv m s)) $$ [HI Hat] with Hs
    · isplitl [HI]; · iexact HI
      iexact Hat
    imodintro
    isplitl [Hb] <;> iassumption
  · have h : rcvOf c s < 31 := by
      have h1 := rcvOf_lt c s
      have h2 : rcvOf c s ≠ 31 := fun e => hb (rcvOf_inj (e.trans (rcvOf_self c).symm))
      omega
    rw [if_neg hb, if_pos h]
    iintro ⟨-, Hb, Hs⟩
    imodintro
    isplitl [Hb]; · iexists _; iexact Hb
    iexact Hs

/-- What device `c` holds once it is done: its operands, its result, no debt, every counter at zero, its buffers. -/
def Done (c : Dev nD) : sProp 𝕄 :=
  iprop(((c : Thread nD τ).loc cc0_stg0_0 ↦{fullShare} xV m c)
    ∗ ((c : Thread nD τ).loc cc0_stg1_0 ↦{fullShare} sxV m c)
    ∗ ((c : Thread nD τ).loc cc0_stg2_0 ↦{fullShare} swV m c)
    ∗ ((c : Thread nD τ).loc cc0_stg3_0 ↦{fullShare} outV m c)
    ∗ (∃ X, owes (c : Thread nD τ) 0 X)
    ∗ ((c : Thread nD τ).loc main_arg1 ↦{fullShare} wV m c)
    ∗ (bigSep Finset.univ fun x : CellIx => semVal (cellAt c x) 0)
    ∗ (∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f))

/-- The state in which everything is done, closed. -/
theorem finish : ST m K c 31 true 8 8 32 32 32 32 31 31 ⊢ |={Set.univ}=> Done m c := by
  unfold ST Base Out Owe Bar Lds Blk Rcv
  rw [owe_done]
  iintro ⟨⟨#HR, -, Hx, Hsx, Hsw⟩, ⟨%f, %hf, Ho⟩, Hw, -, ⟨HB, -⟩, HL, HS, HV⟩
  imod (with_persistent (R := Recs m K) (end_load m K c)) $$ [HL] with HL
  · isplitr; · iexact HR
    iexact HL
  imod (with_persistent (R := Recs m K) (end_send m K c)) $$ [HS] with HS
  · isplitr; · iexact HR
    iexact HS
  imod (with_persistent (R := Recs m K) (end_recv m K c)) $$ [HV] with HV
  · isplitr; · iexact HR
    iexact HV
  ihave HL := (unsep3 (F := F)) $$ HL
  ihave HS := (unsep2 (F := F)) $$ HS
  ihave HV := (unsep2 (F := F)) $$ HV
  icases HL with ⟨HL1, HL2, HL3⟩
  icases HS with ⟨HS1, HS2⟩
  icases HV with ⟨HV1, HV2⟩
  have he : f = outV m c := out_eq m c f fun s => hf s (by
    unfold filled
    by_cases hb : s = c
    · rw [if_pos hb]; exact stepOf_lt c c
    · rw [if_neg hb]
      have h1 := rcvOf_lt c s
      have h2 : rcvOf c s ≠ 31 := fun e => hb (rcvOf_inj (e.trans (rcvOf_self c).symm))
      omega)
  subst he
  imodintro
  unfold Done
  rw [cells_split]
  isplitl [Hx]; · iexact Hx
  isplitl [Hsx]; · iexact Hsx
  isplitl [Hsw]; · iexact Hsw
  isplitl [Ho]; · iexact Ho
  isplitl [Hw]; · iexact Hw
  isplitl [HL2]; · iapply (w_halves m c).2; iexact HL2
  isplitl [HB HL3 HS2 HV2]
  · isplitl [HB]; · iexact HB
    isplitl [HL3]; · iexact HL3
    isplitl [HS2]; · iexact HS2
    iexact HV2
  isplitl [HL1]; · iapply (buf_join c (m _)); iexact HL1
  isplitl [HS1]; · iapply (snd_join c (m _)); iexact HS1
  iapply (rcv_join c (m _)); iexact HV1

end End

/-! ## The start -/

/-- The rights to pay that device `c` starts with: to signal every device, to hand back its own send slots, to fill its
    landing slot on every device, to fill its halves of the double buffer. -/
def payToks (c : Dev nD) : sProp 𝕄 :=
  iprop((bigSep Finset.univ fun d : Dev nD => dutyTok ER (barCell d) 0 c)
    ∗ (bigSep Finset.univ fun b : Dev nD => dutyTok ER (sendCell c b) 0 (0 : Dev nD))
    ∗ (bigSep Finset.univ fun b : Dev nD => dutyTok ER (recvCell b c) 0 (0 : Dev nD))
    ∗ (bigSep Finset.univ fun l : Fin 2 => bigSep (Finset.Ico 0 4) fun r => dutyTok ER (loadCell c l) r (0 : Dev nD)))

/-- Its positions and its rights. -/
def linear (c : Dev nD) : sProp 𝕄 :=
  iprop((bigSep Finset.univ fun x : CellIx => atPos ER (cellAt c x) 0 ∅ 0) ∗ payToks c)

/-- Its credits: a unit of every other device at its barrier cell, a block of every other device. -/
def credits (c : Dev nD) : sProp 𝕄 :=
  iprop(cred (tallyAt (barCell c) () 31) ∗ bigSep Finset.univ fun s : Dev nD => if s = c then iprop(emp) else cred (tallyAt (recvCell c s) () N))

/-- What device `c` holds before the body. -/
def Begin (K : Dev nD × CellIx → ℕ) (c : Dev nD) : sProp 𝕄 :=
  iprop(Base m K c ∗ (∃ f : Buf (Elt F) ((c : Thread nD τ).loc cc0_stg3_0), (c : Thread nD τ).loc cc0_stg3_0 ↦{fullShare} f)
    ∗ (∃ X, owes (c : Thread nD τ) (owe c 0 0) X) ∗ linear c ∗ credits c
    ∗ ((c : Thread nD τ).loc main_arg1 ↦{fullShare} wV m c)
    ∗ (∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f))

section Start
variable (K : Dev nD × CellIx → ℕ) (c : Dev nD)

omit [FloatOps F] in
/-- The landing slot of the device itself apart from the others. -/
theorem rcv_apart (s : Dev nD) : (iprop(∃ v, rcvPts c s v) : sProp 𝕄)
    ⊢ iprop((if s = c then iprop(emp) else iprop(∃ v, rcvPts c s v)) ∗ if s = c then iprop(∃ v, rcvPts c s v) else iprop(emp)) := by
  by_cases h : s = c
  · rw [if_pos h, if_pos h]
    iintro H; isplitr; · iempintro
    iexact H
  · rw [if_neg h, if_neg h]
    iintro H; isplitl; · iexact H
    iempintro

theorem start_sig (d : Dev nD) : iprop((if d = c then iprop(emp) else iprop(∃ v, rcvPts c d v)) ∗ dutyTok ER (barCell d) 0 c)
    ⊢ (if 0 ≤ sigOf c d ∧ d ≠ c then iprop((∃ v, rcvPts c d v) ∗ dutyTok ER (barCell d) 0 c) else iprop(emp) : sProp 𝕄) := by
  by_cases h : d = c
  · rw [if_pos h, if_neg (fun h' => h'.2 h)]
    iintro -; iempintro
  · rw [if_neg h, if_pos ⟨Nat.zero_le _, h⟩]

theorem start_load (l : Fin 2) : iprop(Recs m K ∗ ((∃ v, bufPts c l v) ∗ wAll m c l ∗ atPos ER (loadCell c l) 0 ∅ 0
      ∗ bigSep (Finset.Ico 0 4) fun r => dutyTok ER (loadCell c l) r (0 : Dev nD)))
    ⊢ |={Set.univ}=> (Ld m c l (cnt l 0) (cnt l 0) : sProp 𝕄) := by
  have h0 : cnt l 0 = 0 := by revert l; decide
  unfold Ld
  rw [if_neg (Nat.lt_irrefl _), h0]
  iintro ⟨HR, ⟨%v, Hb⟩, Hw, Hat, Ht⟩
  ihave Hc := (recs_at m K c (some (.inl l))) $$ HR
  icases Hc with ⟨-, Hr⟩
  imodintro
  isplitl [Hb]
  · iexists v; isplitr; · ipureintro; exact fun h => absurd h (by decide)
    iexact Hb
  isplitl [Hw]; · iexact Hw
  isplitl [Hat]; · iexact Hat
  isplitl [Hr]; · iexact Hr
  iexact Ht

theorem start_blk (b : Dev nD) : iprop((∃ v, sndPts c b v) ∗ atPos ER (sendCell c b) 0 ∅ 0 ∗ dutyTok ER (sendCell c b) 0 (0 : Dev nD) ∗ dutyTok ER (recvCell b c) 0 (0 : Dev nD))
    ⊢ (Bk m c 0 0 0 b : sProp 𝕄) := by
  unfold Bk
  by_cases h : b = c
  · subst h
    rw [if_pos rfl]
    iintro ⟨Hv, Hat, -⟩
    isplitl [Hv] <;> iassumption
  · rw [if_neg h, if_neg (Nat.not_lt_zero _), if_neg (Nat.not_lt_zero _)]
    iintro ⟨⟨%v, Hv⟩, Hat, Ht, Ht'⟩
    isplitl [Hv]
    · iexists v; isplitr; · ipureintro; exact fun h => absurd h (Nat.not_lt_zero _)
      iexact Hv
    isplitl [Ht]; · iexact Ht
    isplitl [Ht']; · iexact Ht'
    iexact Hat

theorem start_rcv (s : Dev nD) : iprop((if s = c then iprop(∃ v, rcvPts c s v) else iprop(emp)) ∗ (if s = c then iprop(emp) else cred (tallyAt (recvCell c s) () N)) ∗ atPos ER (recvCell c s) 0 ∅ 0)
    ⊢ (Rc m c 0 s : sProp 𝕄) := by
  unfold Rc
  by_cases h : s = c
  · subst h
    rw [if_pos rfl, if_pos rfl, if_pos rfl]
    iintro ⟨Hv, -, Hat⟩
    isplitl [Hv] <;> iassumption
  · rw [if_neg h, if_neg h, if_neg h, if_neg (Nat.not_lt_zero _)]
    iintro ⟨-, Hc, Hat⟩
    isplitl [Hc] <;> iassumption

omit [FloatOps F] in
theorem sep2 {I : Type} [Fintype I] {Φ₁ Φ₂ Ψ : I → sProp 𝕄} (h : ∀ i, iprop(Φ₁ i ∗ Φ₂ i) ⊢ Ψ i) :
    iprop(bigSep Finset.univ Φ₁ ∗ bigSep Finset.univ Φ₂) ⊢ bigSep Finset.univ Ψ := by
  rw [← bigSep_sep']; exact bigSep_mono fun i _ => h i
omit [FloatOps F] in
theorem sep3 {I : Type} [Fintype I] {Φ₁ Φ₂ Φ₃ Ψ : I → sProp 𝕄} (h : ∀ i, iprop(Φ₁ i ∗ Φ₂ i ∗ Φ₃ i) ⊢ Ψ i) :
    iprop(bigSep Finset.univ Φ₁ ∗ bigSep Finset.univ Φ₂ ∗ bigSep Finset.univ Φ₃) ⊢ bigSep Finset.univ Ψ := by
  rw [← bigSep_sep', ← bigSep_sep']; exact bigSep_mono fun i _ => h i
omit [FloatOps F] in
theorem sep4 {I : Type} [Fintype I] {Φ₁ Φ₂ Φ₃ Φ₄ Ψ : I → sProp 𝕄} (h : ∀ i, iprop(Φ₁ i ∗ Φ₂ i ∗ Φ₃ i ∗ Φ₄ i) ⊢ Ψ i) :
    iprop(bigSep Finset.univ Φ₁ ∗ bigSep Finset.univ Φ₂ ∗ bigSep Finset.univ Φ₃ ∗ bigSep Finset.univ Φ₄) ⊢ bigSep Finset.univ Ψ := by
  rw [← bigSep_sep', ← bigSep_sep', ← bigSep_sep']; exact bigSep_mono fun i _ => h i

/-- What device `c` holds before the body makes the state in which nothing is done. -/
theorem begin_ST : Begin m K c ⊢ |={Set.univ}=> ST m K c 0 false 0 0 0 0 0 0 0 0 := by
  unfold Begin ST linear payToks credits Base
  rw [cells_split]
  iintro ⟨⟨#HR, HB⟩, ⟨%f, Ho⟩, Hw, ⟨⟨HaB, HaL, HaS, HaV⟩, HtB, HtS, HtV, HtL⟩, ⟨HcB, HcV⟩, HW, ⟨%f0, H0⟩, ⟨%f1, H1⟩, ⟨%f2, H2⟩⟩
  ihave H0 := (buf_split c f0) $$ H0
  ihave H1 := (snd_split c f1) $$ H1
  ihave H2 := (rcv_split c f2) $$ H2
  ihave H2 := (mono1 (rcv_apart (F := F) c)) $$ H2
  ihave H2 := (unsep2 (F := F)) $$ H2
  icases H2 with ⟨H2, H3⟩
  ihave HW := (w_halves m c).1 $$ HW
  imod (with_persistent (R := Recs m K) (start_load m K c)) $$ [H0 HW HaL HtL] with HL
  · isplitr; · iexact HR
    iapply (sep4 (fun l => .rfl))
    isplitl [H0]; · iexact H0
    isplitl [HW]; · iexact HW
    isplitl [HaL]; · iexact HaL
    iexact HtL
  imodintro
  isplitl [HB]
  · isplitr; · iexact HR
    iexact HB
  isplitl [Ho]
  · unfold Out
    iexists f
    isplitr
    · ipureintro
      intro s hs
      unfold filled at hs
      split at hs <;> exact absurd hs (Nat.not_lt_zero _)
    iexact Ho
  isplitl [Hw]; · unfold Owe; iexact Hw
  isplitl [H2 HtB]
  · unfold Sig
    iapply (sep2 (start_sig (F := F) c))
    isplitl [H2]; · iexact H2
    iexact HtB
  isplitl [HaB HcB]
  · unfold Bar
    isplitl [HaB]; · iexact HaB
    iexact HcB
  isplitl [HL]; · unfold Lds; iexact HL
  isplitl [H1 HaS HtS HtV]
  · unfold Blk
    iapply (sep4 (start_blk m c))
    isplitl [H1]; · iexact H1
    isplitl [HaS]; · iexact HaS
    isplitl [HtS]; · iexact HtS
    iexact HtV
  unfold Rcv
  iapply (sep3 (start_rcv m c))
  isplitl [H3]; · iexact H3
  isplitl [HcV]; · iexact HcV
  iexact HaV

end Start

/-- The body takes device `c` from what it holds before to what it holds once done. -/
theorem body_done (K : Dev nD × CellIx → ℕ) (c : Dev nD) {hx hw hs hs2 ho hb hn hr} {Q : PUnit → sProp 𝕄} (h : Done m c ⊢ Q ⟨⟩) :
    Begin m K c
      ⊢ W c (cc0_body xM hx wM hw sxM hs swM hs2 oM ho bufM hb sndM hn rcvM hr cc0_scratch3 cc0_scratch4 cc0_scratch5) Q := by
  refine (begin_ST m K c).trans (.trans ?_ (fupd_wp frame (wpE (defs₀ (F := F)) 𝒱₀ (c : Thread nD τ) none) Set.univ _ Q))
  have h1 := run_body m K c (hx := hx) (hw := hw) (hs := hs) (hs2 := hs2) (ho := ho) (hb := hb) (hn := hn) (hr := hr)
    (Q := fun a => iprop(|={Set.univ}=> Q a)) ((finish m K c).trans (fupd_mono h))
  refine fupd_mono (h1.trans ?_)
  unfold W
  exact wp_fupd frame _ _ _ _

end Cert.KernelIdealProof

end
-- ==== Proof.KernelIdealLaunch.lean ====
/-
# The launch

The thirty-two devices start together: every cell's invariant is allocated, the rights to pay are dealt to the devices
that will use them, every device gets the credits of its barrier cell and of its receive cells, runs the body, and gives
its cells back at zero. The run's result is `outV` on every device.
-/
module

public import proofs.«01_k».proof.Proof.KernelIdealEnd
public import proofs.«01_k».proof.Proof.Gen.KernelIdeal.Points
public import Idealize.ShloMosaic.Lib.Pipeline.CollectiveSegs
public import Idealize.ShloMosaic.Lib.Quiescent

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's proof data -/

/-- What device `c` starts from. -/
def start (c : Dev nD) : sProp 𝕄 :=
  iprop((∃ K, Recs m K ∗ linear c) ∗ credits c ∗ levAts L lv ∗ ((c : Thread nD τ).loc main_arg1 ↦{fullShare} wV m c))
/-- Its scratch buffers, at any contents. -/
def scratch (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f)
    ∗ (∃ f : Buf (Elt F) ((c : Thread nD τ).loc cc0_scratch2), (c : Thread nD τ).loc cc0_scratch2 ↦{fullShare} f))
def Φ₀ (c : Dev nD) : sProp 𝕄 := iprop(start m c ∗ scratch c)
/-- What is left after the body. -/
def Φ₁ (c : Dev nD) : sProp 𝕄 :=
  iprop(((c : Thread nD τ).loc main_arg1 ↦{fullShare} wV m c) ∗ (bigSep Finset.univ fun x : CellIx => semVal (cellAt c x) 0) ∗ scratch c)

def dats (_ : Fin 1) (c : Dev nD) : Dat τ (Elt F) Unit ℕ UU ℕ cfg0 c where
  A w := m ((cfg0.win w).arr.view.loc (c : Thread nD τ))
  after w _ := match w with
    | ⟨0, _⟩ => xV m c
    | ⟨1, _⟩ => sxV m c
    | ⟨2, _⟩ => swV m c
    | ⟨3, _⟩ => outV m c
  Φ t := match t with
    | ⟨0, _⟩ => Φ₀ m c
    | ⟨_ + 1, _⟩ => Φ₁ m c
  q _ := fullShare
  owed t := match t with
    | ⟨0, _⟩ => owe c 0 0
    | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

/-- A staging buffer holding `X`. -/
def stg (c : Dev nD) (b : Ref sig .tc) (X : b.ty.Contents (Elt F)) : sProp 𝕄 :=
  iprop(∃ f : Buf (Elt F) ((c : Thread nD τ).loc b), ⌜f = X⌝ ∗ ((c : Thread nD τ).loc b ↦{fullShare} f))

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))
def bodyPost (c : Dev nD) : sProp 𝕄 :=
  iprop(Φ₁ m c ∗ (dats m 0 c).owesAt () t0_0.succ
    ∗ stg c cc0_stg0_0 (xV m c) ∗ stg c cc0_stg1_0 (sxV m c) ∗ stg c cc0_stg2_0 (swV m c) ∗ stg c cc0_stg3_0 (outV m c))

theorem before_x (c : Dev nD) (d) : (dats m 0 c).before (0 : Fin 4) t0_0 d = xV m c := by
  unfold Dat.before; rw [if_pos (fetch0_0 t0_0)]; rfl
theorem before_sx (c : Dev nD) (d) : (dats m 0 c).before (1 : Fin 4) t0_0 d = sxV m c := by
  unfold Dat.before; rw [if_pos (fetch0_1 t0_0)]; rfl
theorem before_sw (c : Dev nD) (d) : (dats m 0 c).before (2 : Fin 4) t0_0 d = swV m c := by
  unfold Dat.before; rw [if_pos (fetch0_2 t0_0)]; rfl

theorem stg_pts (c : Dev nD) (b : Ref sig .tc) (X : b.ty.Contents (Elt F)) :
    (stg c b X : sProp 𝕄) ⊢ ((c : Thread nD τ).loc b ↦{fullShare} (X : Buf (Elt F) ((c : Thread nD τ).loc b))) := by
  unfold stg; iintro ⟨%f, %h, H⟩; subst h; iexact H
theorem pts_stg (c : Dev nD) (b : Ref sig .tc) (X : b.ty.Contents (Elt F)) :
    ((c : Thread nD τ).loc b ↦{fullShare} (X : Buf (Elt F) ((c : Thread nD τ).loc b)) : sProp 𝕄) ⊢ stg c b X := by
  unfold stg; iintro H; iexists _; isplitr; · ipureintro; rfl
  iexact H

theorem done_post (c : Dev nD) : Done m c ⊢ bodyPost m c := by
  unfold Done bodyPost Φ₁ scratch Dat.owesAt Pipeline.owesWithin
  rw [show (dats m 0 c).owed t0_0.succ = 0 from rfl]
  iintro ⟨Hx, Hsx, Hsw, Ho, ⟨%X, HX⟩, Hw, HC, H0, H1, H2⟩
  isplitl [Hw HC H0 H1 H2]
  · isplitl [Hw]; · iexact Hw
    isplitl [HC]; · iexact HC
    isplitl [H0]; · iexact H0
    isplitl [H1]; · iexact H1
    iexact H2
  isplitl [HX]
  · iexists X
    isplitr; · ipureintro; exact fun _ _ => Or.inl trivial
    iexact HX
  isplitl [Hx]; · iapply (pts_stg c cc0_stg0_0 _); iexact Hx
  isplitl [Hsx]; · iapply (pts_stg c cc0_stg1_0 _); iexact Hsx
  isplitl [Hsw]; · iapply (pts_stg c cc0_stg2_0 _); iexact Hsw
  iapply (pts_stg c cc0_stg3_0 _); iexact Ho

theorem pre_begin (c : Dev nD) : bodyPre m c ⊢ iprop(∃ K, Begin m K c) := by
  unfold bodyPre Φ₀ start scratch Dat.owesAt Pipeline.owesWithin
  rw [show (dats m 0 c).owed t0_0.castSucc = owe c 0 0 from rfl]
  iintro ⟨⟨⟨⟨%K, HR, Hl⟩, Hc, HL, Hw⟩, H0, H1, H2⟩, ⟨%X, -, HX⟩, ⟨%d0, Hx⟩, ⟨%d1, Hsx⟩, ⟨%d2, Hsw⟩, ⟨%d3, Ho⟩⟩
  rw [before_x, before_sx, before_sw]
  ihave Hx := (stg_pts c cc0_stg0_0 _) $$ Hx
  ihave Hsx := (stg_pts c cc0_stg1_0 _) $$ Hsx
  ihave Hsw := (stg_pts c cc0_stg2_0 _) $$ Hsw
  ihave Ho := (stg_pts c cc0_stg3_0 _) $$ Ho
  iexists K
  unfold Begin Base
  isplitl [HR HL Hx Hsx Hsw]
  · isplitl [HR]; · iexact HR
    isplitl [HL]; · iexact HL
    isplitl [Hx]; · iexact Hx
    isplitl [Hsx]; · iexact Hsx
    iexact Hsw
  isplitl [Ho]; · iexists _; iexact Ho
  isplitl [HX]; · iexists X; iexact HX
  isplitl [Hl]; · iexact Hl
  isplitl [Hc]; · iexact Hc
  isplitl [Hw]; · iexact Hw
  isplitl [H0]; · iexact H0
  isplitl [H1]; · iexact H1
  iexact H2

theorem obligation_of (c : Dev nD) (hx : xM.IsWhole) (hw : wM.IsWhole) (hs : sxM.IsWhole) (hs2 : swM.IsWhole) (ho : oM.IsWhole) (hb : bufM.IsWhole)
    (hn : sndM.IsWhole) (hr : rcvM.IsWhole) :
    bodyPre m c ⊢ W c (cc0_body xM hx wM hw sxM hs swM hs2 oM ho bufM hb sndM hn rcvM hr cc0_scratch3 cc0_scratch4 cc0_scratch5) (fun _ => bodyPost m c) := by
  refine (pre_begin m c).trans ?_
  iintro ⟨%K, H⟩
  iapply (body_done m K c (Q := fun _ => bodyPost m c) (done_post m c))
  iexact H

set_option maxHeartbeats 20000000 in
/-- The body obligation of the pipeline on device `c`. -/
theorem body_obligation (c : Dev nD) : BodyObligation (dats (F := F) m 0 c) (defs₀ (F := F)) 𝒱₀ () Set.univ := fun t => by
  rw [fin_N0 t]
  rw [bigSep_W0, bigSep_W0]
  simp only [owns_whole]
  show bodyPre m c ⊢ W c
    (cc0_body xM (Memref.isWhole_whole _) wM (Memref.isWhole_whole _) sxM (Memref.isWhole_whole _) swM (Memref.isWhole_whole _)
      oM (Memref.isWhole_whole _) bufM (Memref.isWhole_whole _) sndM (Memref.isWhole_whole _) rcvM (Memref.isWhole_whole _)
      cc0_scratch3 cc0_scratch4 cc0_scratch5) (fun _ => bodyPost m c)
  exact obligation_of m c _ _ _ _ _ _ _ _

/-! ## The cells and the rights to pay -/

/-- The semaphores of the kernel itself. -/
def osem : Fin 2 ⊕ (Dev nD ⊕ Dev nD) → SemLoc sig
  | .inl l => .dma (loadS l)
  | .inr (.inl b) => .dma (sendS b)
  | .inr (.inr s) => .dma (recvS s)

def roleIx : CellIx → Role
  | none => .bar
  | some (.inl l) => .load l
  | some (.inr (.inl b)) => .send b
  | some (.inr (.inr s)) => .recv s
theorem roleIx_inj : Function.Injective roleIx := by
  rintro (_ | _ | _ | _) (_ | _ | _ | _) h <;> first | rfl | (injection h with h; subst h; rfl) | exact absurd h (by intro h; injection h)
theorem role_cell (c : Dev nD) (x : CellIx) : role (cellAt c x).2 = roleIx x := by
  match x with
  | none => exact role_bar
  | some (.inl l) => exact role_load l
  | some (.inr (.inl b)) => exact role_send b
  | some (.inr (.inr s)) => exact role_recv s
theorem cell_dev (c : Dev nD) (x : CellIx) : (cellAt c x).1.1 = c := by
  match x with
  | none => rfl
  | some (.inl l) => rfl
  | some (.inr (.inl b)) => rfl
  | some (.inr (.inr s)) => rfl
/-- Different cells of the protocol are different cells of the machine. -/
theorem cell_inj {c c' : Dev nD} {x x' : CellIx} (h : cellAt c x = cellAt c' x') : c = c' ∧ x = x' :=
  ⟨by rw [← cell_dev c x, h, cell_dev], roleIx_inj (by rw [← role_cell c x, h, role_cell])⟩
theorem kcell_inj : Function.Injective (fun cx : Dev nD × CellIx => cellAt cx.1 cx.2) := fun a b h =>
  Prod.ext (cell_inj h).1 (cell_inj h).2
def allCells : Finset (GSem nD τ sig) := Finset.univ.map ⟨fun cx : Dev nD × CellIx => cellAt cx.1 cx.2, kcell_inj⟩

/-- The duties of the cells of a device: one of every device at its barrier cell, one per send cell, one per receive cell,
    four per load cell. -/
abbrev TokIx : Type := Dev nD ⊕ (Dev nD ⊕ (Dev nD ⊕ (Fin 2 × Fin 4)))
def tokCell : TokIx → CellIx
  | .inl _ => none
  | .inr (.inl b) => some (.inr (.inl b))
  | .inr (.inr (.inl s)) => some (.inr (.inr s))
  | .inr (.inr (.inr lr)) => some (.inl lr.1)
def tokRound : TokIx → ℕ
  | .inr (.inr (.inr lr)) => lr.2.val
  | _ => 0
def tokDuty : TokIx → Dev nD
  | .inl d => d
  | _ => 0
def tokOf (ct : Dev nD × TokIx) : GSem nD τ sig × ℕ × Dev nD := (cellAt ct.1 (tokCell ct.2), tokRound ct.2, tokDuty ct.2)
theorem tok_inj : Function.Injective fun t : TokIx => (tokCell t, tokRound t, tokDuty t) := by
  rintro (d | b | s | ⟨l, r⟩) (d' | b' | s' | ⟨l', r'⟩) h <;>
    simp only [tokCell, tokRound, tokDuty, Prod.mk.injEq, Option.some.injEq, reduceCtorEq, false_and, Sum.inr.injEq, Sum.inl.injEq, and_true, true_and, Fin.val_inj] at h ⊢
  all_goals first | (subst h; rfl) | (obtain ⟨rfl, rfl⟩ := h; exact ⟨rfl, rfl⟩) | (obtain ⟨rfl, rfl⟩ := h; rfl)
theorem tokOf_inj : Function.Injective tokOf := fun a b h => by
  have h1 := cell_inj (congrArg Prod.fst h)
  have h2 := congrArg Prod.snd h
  refine Prod.ext h1.1 (tok_inj ?_)
  exact Prod.ext h1.2 h2
def allToks : Finset (GSem nD τ sig × ℕ × Dev nD) := Finset.univ.map ⟨tokOf, tokOf_inj⟩

def u₀ : UU :=
  (initOf (Pipeline.cells cfgs cellOf_inj) (Pipeline.launchToks cfgs cellOf_inj), initOf allCells allToks)

/-- The rights to pay the duties of device `c`'s own cells. -/
def toks (c : Dev nD) : sProp 𝕄 := bigSep Finset.univ fun t : TokIx => dutyTok ER (cellAt c (tokCell t)) (tokRound t) (tokDuty t)

def G (c : Dev nD) : sProp 𝕄 :=
  iprop((bigSep Finset.univ fun x : CellIx => roundState ER (Rd m) (cellAt c x) 0)
    ∗ (bigSep Finset.univ fun x : CellIx => atPos ER (cellAt c x) 0 ∅ 0)
    ∗ (bigSep Finset.univ fun x : CellIx => reached ER (cellAt c x) 0) ∗ toks c)
def G' (c : Dev nD) : sProp 𝕄 := iprop(∃ K, Recs m K ∗ linear c)

theorem cells_all (Φ : GSem nD τ sig → sProp 𝕄) :
    bigSep allCells Φ = bigSep Finset.univ fun c : Dev nD => bigSep Finset.univ fun x : CellIx => Φ (cellAt c x) := by
  unfold allCells; rw [bigSep_map, bigSep_univ_prod]; rfl
theorem toks_all : bigSep allToks (fun x => (dutyTok ER x.1 x.2.1 x.2.2 : sProp 𝕄)) = bigSep Finset.univ fun c : Dev nD => toks c := by
  unfold allToks; rw [bigSep_map, bigSep_univ_prod]; rfl

theorem fund_cells : BI.own (ER (initOf allCells allToks)) ⊢ (|==> bigSep Finset.univ (G m) : sProp 𝕄) := by
  iintro HX
  imod (Rounds.fund ER (Rd m) allCells allToks) $$ HX with ⟨Hst, Hr, Hat, Htok⟩
  imodintro
  ihave Hst := (Entails.of_eq (cells_all fun g => roundState ER (Rd m) g 0)) $$ Hst
  ihave Hat := (Entails.of_eq (cells_all fun g => atPos ER g 0 ∅ 0)) $$ Hat
  ihave Hr := (Entails.of_eq (cells_all fun g => reached ER g 0)) $$ Hr
  ihave Htok := (Entails.of_eq toks_all) $$ Htok
  iapply (sep4 (Φ₁ := fun c : Dev nD => bigSep Finset.univ fun x : CellIx => roundState ER (Rd m) (cellAt c x) 0)
    (Φ₂ := fun c : Dev nD => bigSep Finset.univ fun x : CellIx => atPos ER (cellAt c x) 0 ∅ 0)
    (Φ₃ := fun c : Dev nD => bigSep Finset.univ fun x : CellIx => reached ER (cellAt c x) 0) (Φ₄ := toks) (Ψ := G m)
    fun c => Entails.of_eq rfl)
  isplitl [Hst]; · iexact Hst
  isplitl [Hat]; · iexact Hat
  isplitl [Hr]; · iexact Hr
  iexact Htok

theorem unscopedSems0_bar (c : Dev nD) : (unscopedSems0 c : sProp 𝕄) = semVal (barCell c) 0 := by
  unfold unscopedSems0; rw [bigSep_eq_bigSepL_of_eq [SemLoc.reg barS] (by decide) (by decide)]; rfl
/-- All counters of a device: the unscoped ones and the kernel's own. -/
theorem sems_split (c : Dev nD) : (bigSep Finset.univ fun x : CellIx => semVal (cellAt c x) 0 : sProp 𝕄)
    = iprop(unscopedSems0 c ∗ Pipeline.ownSems0 (Ix := Unit) (Name := ℕ) (U := UU) (Lvl := ℕ) (Val := Elt F) (τ := τ) osem c) := by
  rw [cells_split, unscopedSems0_bar]
  unfold Pipeline.ownSems0
  rw [bigSep_univ_sum, bigSep_univ_sum]
  rfl

theorem alloc (c : Dev nD) (x : CellIx) : iprop(semVal (cellAt c x) 0 ∗ roundState ER (Rd m) (cellAt c x) 0)
    ⊢ (|={Set.univ}=> iprop(∃ κ : ℕ, cellInv ER (Rd m) κ (cellAt c x)) : sProp 𝕄) :=
  (Rounds.body_intro ER (Rd m) (cellAt c x)).trans inv_alloc

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : CellIx => iprop(∃ κ : ℕ, cellInv ER (Rd m) κ (cellAt c x)))
          ∗ (bigSep Finset.univ fun x : CellIx => atPos ER (cellAt c x) 0 ∅ 0)
          ∗ (bigSep Finset.univ fun x : CellIx => reached ER (cellAt c x) 0) ∗ toks c) := by
  unfold G
  iintro ⟨Hos, Hus, Hst, Hr⟩
  ihave Hv := (Entails.of_eq (sems_split (F := F) c).symm) $$ [Hos Hus]
  · isplitl [Hus]; · iexact Hus
    iexact Hos
  imod (with_persistent (R := iprop(emp)) (Φ := fun x : CellIx => iprop(semVal (cellAt c x) 0 ∗ roundState ER (Rd m) (cellAt c x) 0))
      (Ψ := fun x : CellIx => iprop(∃ κ : ℕ, cellInv ER (Rd m) κ (cellAt c x))) fun x => by
        iintro ⟨-, H⟩; iapply (alloc m c x); iexact H) $$ [Hv Hst] with Hinv
  · isplitr; · iempintro
    iapply (sep2 fun x => .rfl)
    isplitl [Hv]; · iexact Hv
    iexact Hst
  imodintro
  isplitl [Hinv]; · iexact Hinv
  iexact Hr

theorem ico_fin (Φ : ℕ → sProp 𝕄) : bigSep (Finset.Ico 0 4) Φ = bigSep Finset.univ fun r : Fin 4 => Φ r.val := by
  rw [show Finset.Ico 0 4 = Finset.univ.map (Fin.valEmbedding (n := 4)) from by decide, bigSep_map]; rfl

/-- The rights dealt to the devices that use them. -/
theorem toks_deal : (bigSep Finset.univ fun c : Dev nD => (toks c : sProp 𝕄)) ⊢ bigSep Finset.univ fun c : Dev nD => payToks c := by
  have h (c : Dev nD) : (toks c : sProp 𝕄) = iprop((bigSep Finset.univ fun d : Dev nD => dutyTok ER (barCell c) 0 d)
      ∗ (bigSep Finset.univ fun b : Dev nD => dutyTok ER (sendCell c b) 0 (0 : Dev nD))
      ∗ (bigSep Finset.univ fun s : Dev nD => dutyTok ER (recvCell c s) 0 (0 : Dev nD))
      ∗ (bigSep Finset.univ fun l : Fin 2 => bigSep (Finset.Ico 0 4) fun r => dutyTok ER (loadCell c l) r (0 : Dev nD))) := by
    unfold toks
    rw [bigSep_univ_sum, bigSep_univ_sum, bigSep_univ_sum, bigSep_univ_prod]
    simp only [ico_fin]
    rfl
  rw [bigSep_congr fun c _ => h c]
  unfold payToks
  rw [bigSep_sep', bigSep_sep', bigSep_sep', bigSep_sep', bigSep_sep', bigSep_sep',
    BI.bigSep_univ_comm (fun c d : Dev nD => (dutyTok ER (barCell c) 0 d : sProp 𝕄)),
    BI.bigSep_univ_comm (fun c s : Dev nD => (dutyTok ER (recvCell c s) 0 (0 : Dev nD) : sProp 𝕄))]

theorem mk_recs (K : Dev nD × CellIx → ℕ) :
    iprop((bigSep Finset.univ fun x : Dev nD × CellIx => cellInv ER (Rd m) (K x) (cellAt x.1 x.2))
      ∗ bigSep Finset.univ fun x : Dev nD × CellIx => reached ER (cellAt x.1 x.2) 0) ⊢ Recs (F := F) m K := by
  unfold Recs; exact sep2 fun x => .rfl

theorem regroup :
    (bigSep Finset.univ fun c : Dev nD => iprop((bigSep Finset.univ fun x : CellIx => iprop(∃ κ : ℕ, cellInv ER (Rd m) κ (cellAt c x)))
          ∗ (bigSep Finset.univ fun x : CellIx => atPos ER (cellAt c x) 0 ∅ 0)
          ∗ (bigSep Finset.univ fun x : CellIx => reached ER (cellAt c x) 0) ∗ toks c) : sProp 𝕄)
      ⊢ |={Set.univ}=> bigSep Finset.univ (G' m) := by
  rw [bigSep_sep', bigSep_sep', bigSep_sep', ← bigSep_univ_prod (fun cx : Dev nD × CellIx => iprop(∃ κ : ℕ, cellInv ER (Rd m) κ (cellAt cx.1 cx.2))),
    ← bigSep_univ_prod (fun cx : Dev nD × CellIx => (reached ER (cellAt cx.1 cx.2) 0 : sProp 𝕄))]
  iintro ⟨HI, Hat, HR, Htok⟩
  ihave HK := (BI.bigSep_exists_pi Finset.univ (fun (cx : Dev nD × CellIx) (κ : ℕ) => (cellInv ER (Rd m) κ (cellAt cx.1 cx.2) : sProp 𝕄))) $$ HI
  icases HK with ⟨%K, HI⟩
  ihave HRec := (mk_recs m K) $$ [HI HR]
  · isplitl [HI]; · iexact HI
    iexact HR
  ihave Htok := (toks_deal (F := F)) $$ Htok
  iapply (with_persistent (R := Recs m K) (Φ := linear) (Ψ := G' m) fun c => by
    unfold G'; iintro H; imodintro; iexists K; iexact H)
  isplitl [HRec]; · iexact HRec
  iapply (sep2 (Φ₁ := fun c : Dev nD => bigSep Finset.univ fun x : CellIx => atPos ER (cellAt c x) 0 ∅ 0) (Φ₂ := payToks) (Ψ := linear)
    fun c => Entails.of_eq rfl)
  isplitl [Hat]; · iexact Hat
  iexact Htok

/-- All devices' counters at zero make all their invariants. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans ((BI.fupd_mono (regroup m)).trans fupd_trans)

/-! ## The credits -/

theorem bar_iff {a b : Dev nD} : Iff (barCell a = barCell b) (a = b) :=
  ⟨fun h => (cell_inj (x := none) (x' := none) h).1, fun h => h ▸ rfl⟩
theorem recv_iff {a b s t : Dev nD} : Iff (recvCell a s = recvCell b t) (a = b ∧ s = t) :=
  ⟨fun h => by
    have := cell_inj (x := some (.inr (.inr s))) (x' := some (.inr (.inr t))) h
    exact ⟨this.1, by injection this.2 with h; injection h with h; injection h⟩, fun h => by rw [h.1, h.2]⟩
theorem bar_recv {a b s : Dev nD} : barCell a ≠ recvCell b s := fun h => by
  have := (cell_inj (x := none) (x' := some (.inr (.inr s))) h).2; cases this

/-- A device owes a unit to the barrier cell of each other device. -/
theorem owed_bar (d c : Dev nD) : owe d 0 0 (barCell c) () = if d = c then 0 else 1 := by
  unfold owe
  rw [Pi.add_apply, Finsupp.add_apply, Finset.sum_apply, Finset.sum_apply, Finsupp.finset_sum_apply, Finsupp.finset_sum_apply,
    Finset.sum_eq_zero, zero_add, Finset.sum_eq_single c]
  · by_cases h : d = c
    · rw [if_neg (fun h' => h'.2 h.symm), if_pos h]; rfl
    · rw [if_pos ⟨Nat.zero_le _, Ne.symm h⟩, if_neg h, tallyAt_apply, if_pos ⟨rfl, rfl⟩]
  · intro d' _ hd'
    split
    · rw [tallyAt_apply, if_neg (fun h => hd' (bar_iff.mp h.1).symm)]
    · rfl
  · intro h; exact absurd (Finset.mem_univ _) h
  · intro d' _
    split
    · rw [tallyAt_apply, if_neg (fun h => bar_recv h.1)]
    · rfl

/-- A device owes a block to its receive cell on each other device. -/
theorem owed_recv (d c s : Dev nD) (hs : s ≠ c) : owe d 0 0 (recvCell c s) () = if d = s then N else 0 := by
  unfold owe
  rw [Pi.add_apply, Finsupp.add_apply, Finset.sum_apply, Finset.sum_apply, Finsupp.finset_sum_apply, Finsupp.finset_sum_apply,
    Finset.sum_eq_single c, Finset.sum_eq_zero, add_zero]
  · by_cases h : d = s
    · subst h
      rw [if_pos ⟨Nat.zero_le _, hs.symm⟩, if_pos rfl, tallyAt_apply, if_pos ⟨rfl, rfl⟩]
    · rw [if_neg h]
      split
      · rw [tallyAt_apply, if_neg (fun h' => h (recv_iff.mp h'.1).2.symm)]
      · rfl
  · intro d' _
    split
    · rw [tallyAt_apply, if_neg (fun h => bar_recv h.1.symm)]
    · rfl
  · intro d' _ hd'
    split
    · rw [tallyAt_apply, if_neg (fun h => hd' (recv_iff.mp h.1).1.symm)]
    · rfl
  · intro h; exact absurd (Finset.mem_univ _) h

theorem launch_bar (c : Dev nD) :
    tallyOn (barCell c) (launchCredit (Pipeline.owing fun d => owe d 0 0) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

theorem launch_recv (c s : Dev nD) (hs : s ≠ c) :
    tallyOn (recvCell c s) (launchCredit (Pipeline.owing fun d => owe d 0 0) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s hs, Finset.sum_ite_eq' Finset.univ s fun _ => N,
    if_pos (Finset.mem_univ _)]

/-- The semaphores that other devices pay. -/
def paid : Option (Dev nD) → SemLoc sig
  | none => .reg barS
  | some s => .dma (recvS s)
theorem paid_inj : Function.Injective paid := by
  have h (x : Option (Dev nD)) : role (paid x) = roleIx (x.map fun s => .inr (.inr s)) := by
    cases x
    · exact role_bar
    · exact role_recv _
  intro x y e
  have := roleIx_inj ((h x).symm.trans ((congrArg role e).trans (h y)))
  match x, y, this with
  | none, none, _ => rfl
  | some a, some b, this =>
    injection this with h
    injection h with h
    injection h with h
    rw [h]

theorem drop (P : sProp 𝕄) : P ⊢ iprop(emp) := by
  iintro -; iempintro

theorem creds (c : Dev nD) : (Pipeline.launchCred (fun d => owe d 0 0) c : sProp 𝕄) ⊢ credits c := by
  unfold Pipeline.launchCred credits
  refine (BI.bigSep_subset (t := Finset.univ.map ⟨paid, paid_inj⟩) (Finset.subset_univ _)).trans ?_
  rw [bigSep_map, bigSep_univ_at _ none, show (Finset.univ.erase none : Finset (Option (Dev nD))) = Finset.univ.map ⟨some, Option.some_injective _⟩ from by
    ext x; cases x <;> simp, bigSep_map]
  refine BI.sep_mono (Entails.of_eq (congrArg cred (launch_bar c))) (bigSep_mono fun s _ => ?_)
  by_cases hs : s = c
  · rw [if_pos hs]; exact drop _
  · rw [if_neg hs]; exact Entails.of_eq (congrArg cred (launch_recv c s hs))

/-! ## Side conditions of the launch -/

theorem ownSemFacts : Pipeline.OwnSemFacts cfg0.spec osem where
  isScoped k := by
    match k with
    | .inl l => revert l; decide +kernel
    | .inr (.inl b) => revert b; decide +kernel
    | .inr (.inr s) => revert s; decide +kernel
  inj a b h := by
    have hr (k) : role (osem k) = roleIx (some k) := by
      match k with
      | .inl l => exact role_load l
      | .inr (.inl b) => exact role_send b
      | .inr (.inr s) => exact role_recv s
    exact Option.some_injective _ (roleIx_inj ((hr a).symm.trans ((congrArg role h).trans (hr b))))
  disj k w s := by
    match k with
    | .inl l => revert l w s; decide +kernel
    | .inr (.inl b) => revert b w s; decide +kernel
    | .inr (.inr b) => revert b w s; decide +kernel

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owe d 0 0) c ∗ prngReg c (ρ c) ∗ G' m c)
      ⊢ |={Set.univ}=> iprop(start m c ∗ emp) := by
  rw [Pipeline.unscopedRestP_none, unscopedRest0_eq]
  iintro ⟨Hw, Hlev, Hcr, -, HG⟩
  ihave Hc := (creds (F := F) c) $$ Hcr
  imodintro
  unfold start G'
  isplitl
  · isplitl [HG]; · iexact HG
    isplitl [Hc]; · iexact Hc
    isplitl [Hlev]; · iexact Hlev
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, H⟩
  isplitl [Hs]; · iexact Hs
  iexact H

/-- What a device gives back, apart from its own semaphores and buffers. -/
def Y (c : Dev nD) : sProp 𝕄 := iprop(unscopedSems0 c ∗ ((c : Thread nD τ).loc main_arg1 ↦{fullShare} wV m c))

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ Y scratch
  rw [sems_split]
  iintro ⟨Hw, ⟨Hu, Ho⟩, H⟩
  isplitl [Hu Hw]
  · isplitl [Hu]; · iexact Hu
    iexact Hw
  isplitl [Ho]; · iexact Ho
  iexact H

theorem waits (c : Dev nD) : (levAts L lv : sProp 𝕄) ⊢ Pipeline.cellsWaits cfgs (dats m) () 0 c :=
  Pipeline.cellsWaits_intro cfgs (dats m) () 0 c fun w s t => by
    have h0 : lv ((c : Thread nD τ), .dma ((cfg0.win w).sem s)) () = 0 := by
      have hr : role (.dma ((cfg0.win w).sem s)) = .other := by revert w s; decide +kernel
      unfold lv; rw [hr]
    rcases t with ⟨_ | _, ht⟩
    · exact mayWait_low c _ h0 0 0
    · show (levAts L lv : sProp 𝕄) ⊢ MayWait (c : Thread nD τ) _ () 0
      rw [MayWait_zero]; iintro -; iempintro

/-- What is read of a device's memory at the end besides the windows' arrays: the unscoped counters and `w`. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg1) = wV m c

theorem read_end (c : Dev nD) (s' : Phys nD τ sig (Elt F)) :
    iprop(Y m c ∗ emp ∗ SI s') ⊢ (|={Set.univ}=> iprop(⌜QY m c s'.mem⌝ ∗ SI s') : sProp 𝕄) := by
  unfold Y QY
  iintro ⟨⟨Hu, Hw⟩, -, HSI⟩
  imod (Pipeline.unscopedSems0_read (X := unscopedSems0 c) (c := c) fupd_intro s') $$ [Hu HSI] with ⟨%h1, HSI⟩
  · isplitl [Hu] <;> iassumption
  icombine HSI Hw gives %h
  imodintro
  isplitr
  · ipureintro
    exact ⟨h1, Buf.eq_of_forall_mem_univ h⟩
  iexact HSI

/-! ## The run -/

/-- What is known at the end: the windows' arrays, `w`, and every counter at zero. -/
def QC (r : PUnit × MemSt nD τ sig (Elt F)) : Prop :=
  (∀ c : Dev nD, (∀ w : Fin cfg0.W, r.2.mem ((cfg0.win w).arr.view.loc (c : Thread nD τ)) = (dats m 0 c).arrAt w cfg0.N)
    ∧ r.2.mem ((c : Thread nD τ).loc main_arg1) = wV m c)
  ∧ r.2.sem = fun _ => 0

set_option maxRecDepth 8000 in
/-- From any memory with its counters at zero, every weakly fair execution of the kernel on the thirty-two devices ends,
    and ends as `QC` says. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => owe d 0 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := Y m) (Z := fun _ => iprop(emp))
    (hX := start_intro m ρ) (hin := phi0_intro m) (hout := phi1_exit m)
    (QY := QY m)
    (hY := read_end m)
    (hQ := fun _ h hs => ⟨fun c => ⟨fun w => (h c).1 w, (h c).2.2.2⟩, sem_eq_zero hs fun c => (h c).2.2.1⟩)

theorem arr_x (c : Dev nD) : (dats m 0 c).arrAt (0 : Fin 4) cfg0.N = m ((c : Thread nD τ).loc main_arg0) := ((dats m 0 c).arrAt_in (0 : Fin 4) rfl _).trans rfl
theorem arr_sx (c : Dev nD) : (dats m 0 c).arrAt (1 : Fin 4) cfg0.N = m ((c : Thread nD τ).loc main_arg2) := ((dats m 0 c).arrAt_in (1 : Fin 4) rfl _).trans rfl
theorem arr_sw (c : Dev nD) : (dats m 0 c).arrAt (2 : Fin 4) cfg0.N = m ((c : Thread nD τ).loc main_arg3) := ((dats m 0 c).arrAt_in (2 : Fin 4) rfl _).trans rfl

/-- Every execution ends with the arguments as they were and every counter at zero. -/
theorem run_frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r h => ⟨fun c => ⟨((h.1 c).1 (0 : Fin 4)).trans (arr_x m c), (h.1 c).2, ((h.1 c).1 (1 : Fin 4)).trans (arr_sx m c),
    ((h.1 c).1 (2 : Fin 4)).trans (arr_sw m c)⟩, h.2⟩) (run_main m ρ)

end Cert.KernelIdealProof

end
-- ==== Proof.Value.lean ====
/-
# The values

Over the reals the rounding of a block to bfloat16 and its widening are the identity, so every row block of device `c`'s
result is column block `c` of some device's scaled product. With the arguments cut from the reference's arrays that is
the reference's result at the same place.
-/
module

public import proofs.«01_k».proof.Proof.KernelIdealLaunch
public import proofs.«01_k».proof.Proof.Gen.ReferenceIdeal.Run
public import Idealize.ShloMosaic.Lib.Layout
public import Idealize.ShloMosaic.Lib.MatmulPlain
public import Idealize.ShloMosaic.Lib.StackMember
public import Idealize.ShloMosaic.Lib.KernelVsHost

@[expose] public section

noncomputable section

namespace Cert.KernelIdealProof

open Cert.KernelIdeal Cert.KernelIdeal.Gen

open Idealize.ShloMosaic
open Idealize.ShloMosaic.TcCoe
open Idealize.SL.Sem
open Idealize.ShloMosaic.ValueIdx
open Idealize.ShloMosaic.Pipeline (Dat)

variable (m : (ℓ : Loc nD τ sig) → Buf (Elt Ideal) ℓ)

/-- The four argument arrays of device `c`, as arrays of extended reals. -/
def argX (c : Dev nD) : (⟨2, ![128, 4096]⟩ : Shape).Idx → EReal := m ((c : Thread nD τ).loc main_arg0)
def argW (c : Dev nD) : (⟨2, ![4096, 2048]⟩ : Shape).Idx → EReal := m ((c : Thread nD τ).loc main_arg1)
def argSx (c : Dev nD) : (⟨1, ![1]⟩ : Shape).Idx → EReal := m ((c : Thread nD τ).loc main_arg2)
def argSw (c : Dev nD) : (⟨1, ![1]⟩ : Shape).Idx → EReal := m ((c : Thread nD τ).loc main_arg3)

/-- The one index of a vector of one element. -/
def ix0 : (⟨1, ![1]⟩ : Shape).Idx := fun _ => ⟨0, by decide +revert⟩
theorem eq_ix0 (i : (⟨1, ![1]⟩ : Shape).Idx) : i = ix0 := by
  funext a
  refine Fin.ext ?_
  have h : (i a).val < (⟨1, ![1]⟩ : Shape).size a := (i a).isLt
  match a with
  | ⟨0, _⟩ => exact Nat.lt_one_iff.mp h

theorem whole_emb_x (c : Dev nD) (i : (⟨2, ![128, 4096]⟩ : Shape).Idx) : xV m c i = argX m c i := by
  unfold xV argX
  refine congrArg (m ((c : Thread nD τ).loc main_arg0)) ?_
  funext a
  refine Fin.ext ?_
  match a with
  | ⟨0, _⟩ => show 0 * 128 + 1 * (i 0).val = (i 0).val; omega
  | ⟨1, _⟩ => show 0 * 4096 + 1 * (i 1).val = (i 1).val; omega

theorem scl_eq (c : Dev nD) : sclV m c = argSx m c ix0 * argSw m c ix0 := by
  have hx (i) : sxV m c i = argSx m c ix0 := by
    unfold sxV argSx
    exact congrArg (m ((c : Thread nD τ).loc main_arg2)) (eq_ix0 _)
  have hw (i) : swV m c i = argSw m c ix0 := by
    unfold swV argSw
    exact congrArg (m ((c : Thread nD τ).loc main_arg3)) (eq_ix0 _)
  unfold sclV k0_pay1
  exact congrArg₂ (fun a b : EReal => a * b) (hx _) (hw _)

theorem chunk_eq (c : Dev nD) (j : Fin 8) (k : Fin 4096) (q : Fin 256) :
    chunkV m c j (ix2 k q) = argW m c (ix2 k ⟨256 * j.val + q.val, by omega⟩) := by
  unfold chunkV wV argW
  refine congrArg (m ((c : Thread nD τ).loc main_arg1)) ?_
  funext a
  refine Fin.ext ?_
  match a with
  | ⟨0, _⟩ => show 0 + 1 * k.val = k.val; omega
  | ⟨1, _⟩ => show 256 * j.val + 1 * q.val = 256 * j.val + q.val; omega

/-- An entry of the scaled product of device `c`'s row block with chunk `j`. -/
theorem prod_eq (c : Dev nD) (j : Fin 8) (r : Fin 128) (q : Fin 256) :
    prodV m c j (ix2 r q) = (∑ k : Fin 4096, argX m c (ix2 r k) * argW m c (ix2 k ⟨256 * j.val + q.val, by omega⟩)) * (argSx m c ix0 * argSw m c ix0) := by
  unfold prodV k0_pay15 k0_pay2 halfV
  rw [shapeCast_self, shapeCast_shapeCast, matmul_zero_eq_dotGeneral]
  show Host.dotGeneral (DotDims.plain 128 4096 256) none (xV m c) (chunkV m c j) (ix2 r q) * sclV m c = _
  rw [StackMember.dotGeneral_plain_apply, scl_eq]
  refine congrArg (· * _) (Finset.sum_congr rfl fun k _ => ?_)
  rw [whole_emb_x, chunk_eq]

theorem rows_eq (c s : Dev nD) : rowsV m c s = blockV m s c := by
  unfold rowsV
  split
  · next h => rw [h]
  · unfold k0_pay93 sentV sentAt
    rw [shapeCast_shapeCast]
    rfl

theorem block_eq (c b : Dev nD) (r : Fin 128) (q : Fin 64) :
    blockV m c b (ix2 r q) = prodV m c (chk b) (ix2 r ⟨64 * (qtr b).val + q.val, by omega⟩) := by
  unfold blockV blockAt extractStridedSlice
  refine congrArg (prodV m c (chk b)) ?_
  funext a
  refine Fin.ext ?_
  match a with
  | ⟨0, _⟩ => show 0 + r.val = r.val; omega
  | ⟨1, _⟩ => rfl

/-- Column `q` of block `b`, as a column of the whole. -/
def colIx (b : Dev nD) (q : Fin 64) : Fin 2048 := ⟨64 * b.val + q.val, by have : b.val < 32 := b.isLt; omega⟩

/-- An entry of the result on device `c`. -/
theorem out_value (c : Dev nD) (i : S4096x64.Idx) :
    outV m c i = (∑ k : Fin 4096, argX m (rowIx i) (ix2 ⟨(i 0).val % 128, Nat.mod_lt _ (by decide)⟩ k)
        * argW m (rowIx i) (ix2 k (colIx c ⟨(i 1).val, (i 1).isLt⟩))) * (argSx m (rowIx i) ix0 * argSw m (rowIx i) ix0) := by
  unfold outV
  rw [rows_eq, eq_ix2 (inIx i)]
  refine (block_eq m (rowIx i) c _ _).trans ((prod_eq m _ _ _ _).trans ?_)
  refine congrArg (· * _) (Finset.sum_congr rfl fun k _ => ?_)
  have hcol : (⟨256 * (chk c).val + (64 * (qtr c).val + (i 1).val), by
      have := (chk c).isLt; have := (qtr c).isLt; have : (i 1).val < 64 := (i 1).isLt; omega⟩ : Fin 2048) = colIx c ⟨(i 1).val, (i 1).isLt⟩ := by
    refine Fin.ext ?_
    show 256 * (chk c).val + (64 * (qtr c).val + (i 1).val) = 64 * c.val + (i 1).val
    unfold chk qtr
    show 256 * (c.val / 4) + (64 * (c.val % 4) + (i 1).val) = 64 * c.val + (i 1).val
    omega
  exact congrArg₂ (fun a b : EReal => a * b) rfl (congrArg (fun v => argW m (rowIx i) (ix2 k v)) hcol)

/-! ## The result array -/

theorem read_out (c : Dev nD) (f : Buf (Elt Ideal) ((c : Thread nD τ).loc main_v1)) : (win0_3.blk (0 : Fin 1)).view.read (Elt Ideal) f = f := by
  funext i
  refine congrArg f ?_
  funext a
  refine Fin.ext ?_
  match a with
  | ⟨0, _⟩ => show 0 * 4096 + 1 * (i 0).val = (i 0).val; omega
  | ⟨1, _⟩ => show 0 * 64 + 1 * (i 1).val = (i 1).val; omega

/-- The result array of device `c` ends holding `outV`. -/
theorem arr_out (c : Dev nD) : (dats m 0 c).arrAt (3 : Fin 4) cfg0.N = outV m c := by
  rw [show cfg0.N = ((0 : Fin 1) : Fin cfg0.N).val + 1 from rfl, (dats m 0 c).arrAt_succ (3 : Fin 4) (0 : Fin 1), if_pos (flush0_3 (0 : Fin 1))]
  exact (read_out c _).symm.trans (View.read_write_univ _ _)

end Cert.KernelIdealProof

namespace Cert

open Idealize.ShloMosaic Idealize.ShloMosaic.ValueIdx
open Idealize.ShloMosaic.TcCoe

/-- The reference's result. -/
def refV (x : (⟨2, ![4096, 4096]⟩ : Shape).Idx → EReal) (w : (⟨2, ![4096, 2048]⟩ : Shape).Idx → EReal) (sx sw : (⟨1, ![1]⟩ : Shape).Idx → EReal) :
    (⟨2, ![4096, 2048]⟩ : Shape).Idx → EReal :=
  fun i => (∑ k : Fin 4096, x (ix2 (i 0) k) * w (ix2 k (i 1))) * (sx KernelIdealProof.ix0 * sw KernelIdealProof.ix0)

open Cert.ReferenceIdeal Cert.ReferenceIdeal.Gen in
theorem ref_value (x : FVec Ideal S4096x4096 .f32) (w : FVec Ideal S4096x2048 .f32) (sx sw : FVec Ideal S1 .f32) :
    mulf (Host.dotGeneral dot_S4096x4096_S4096x2048_S4096x2048_1_0_0_1_n_n none x w)
        (broadcastInDim S4096x2048 ![0, 1] bcast_S1x1_S4096x2048_0_1 (broadcastInDim S1x1 ![1] bcast_S1_S1x1_1 (mulf sx sw)))
      = refV x w sx sw := by
  funext i
  have h (a : Fin 4096) (b : Fin 2048) : Host.dotGeneral (F := Ideal) (φ₁ := .f32) (φ₂ := .f32) (DotDims.plain 4096 4096 2048) none x w (ix2 a b)
      = ∑ k : Fin 4096, x (ix2 a k) * w (ix2 k b) := StackMember.dotGeneral_plain_apply none x w a b
  refine congrArg₂ (fun a b : EReal => a * b) ((congrArg (Host.dotGeneral (F := Ideal) (φ₁ := .f32) (φ₂ := .f32) (DotDims.plain 4096 4096 2048) none x w)
    (eq_ix2 i)).trans (h (i 0) (i 1))) ?_
  exact congrArg₂ (fun a b : EReal => a * b) (congrArg sx (KernelIdealProof.eq_ix0 _)) (congrArg sw (KernelIdealProof.eq_ix0 _))

/-- With the arguments cut from whole arrays, the result on device `c` is its column block of `refV` of them. -/
theorem out_block (m : (ℓ : Loc KernelIdeal.nD KernelIdeal.τ KernelIdeal.sig) → Buf (Elt Ideal) ℓ)
    (x : (⟨2, ![4096, 4096]⟩ : Shape).Idx → EReal) (w : (⟨2, ![4096, 2048]⟩ : Shape).Idx → EReal) (sx sw : (⟨1, ![1]⟩ : Shape).Idx → EReal)
    (hx : ∀ c : Dev KernelIdeal.nD, KernelIdealProof.argX m c = Layout.block ⟨2, ![128, 4096]⟩ ⟨2, ![4096, 4096]⟩ 0 32 c x)
    (hw : ∀ c : Dev KernelIdeal.nD, KernelIdealProof.argW m c = w) (hsx : ∀ c : Dev KernelIdeal.nD, KernelIdealProof.argSx m c = sx)
    (hsw : ∀ c : Dev KernelIdeal.nD, KernelIdealProof.argSw m c = sw) (c : Dev KernelIdeal.nD) :
    KernelIdealProof.outV m c = Layout.block ⟨2, ![4096, 64]⟩ ⟨2, ![4096, 2048]⟩ 1 32 c (refV x w sx sw) := by
  funext i
  rw [KernelIdealProof.out_value, hw, hsx, hsw, Layout.block_apply]
  unfold refV
  refine congrArg (· * _) (Finset.sum_congr rfl fun k _ => ?_)
  refine congrArg₂ (fun a b : EReal => a * b) ?_ ?_
  · rw [hx, Layout.block_apply]
    refine congrArg x ?_
    funext a
    refine Fin.ext ?_
    match a with
    | ⟨0, _⟩ =>
      show (i 0).val / 128 * 128 + (i 0).val % 128 = (i 0).val
      omega
    | ⟨1, _⟩ => rfl
  · refine congrArg w ?_
    funext a
    refine Fin.ext ?_
    match a with
    | ⟨0, _⟩ => rfl
    | ⟨1, _⟩ =>
      show 64 * c.val + (i 1).val = c.val * 64 + (i 1).val
      omega

end Cert

end
-- ==== Proof.lean ====
/-
# The certificate

The five claims of `Defs.lean`: the kernel as printed and at the ideal values runs to a quiet machine with its arguments
kept (`KernelLaunch`, `KernelIdealLaunch`), the reference does (its generated run), nothing was rewritten between the
two kernels, and at the ideal values device `c`'s result is column block `c` of the reference's (`Value`).
-/
module

public import proofs.«01_k».proof.Defs
public import proofs.«01_k».proof.Proof.KernelLaunch
public import proofs.«01_k».proof.Proof.Value
public import proofs.«01_k».proof.Proof.Gen.ReferenceIdeal
public import proofs.«01_k».proof.Proof.Gen.ReferenceIdeal.Run

@[expose] public section

namespace Cert.Proof

open Cert Idealize.ShloMosaic Idealize.SL.Sem

/-- The kernel as printed ends, its arguments as they were and every counter at zero. -/
theorem frame_kernel : quiescent_Kernel (hKernel := Kernel.Gen.facts) := fun m g _ => KernelProof.run_frame m g

/-- The same of the kernel at the ideal values. -/
theorem frame_ideal : quiescent_KernelIdeal (hKernelIdeal := KernelIdeal.Gen.facts) := fun m g _ => KernelIdealProof.run_frame m g

/-- The reference ends, its arguments as they were and every counter at zero. -/
theorem frame_reference : quiescent_ReferenceIdeal (hReferenceIdeal := ReferenceIdeal.Gen.facts) := fun m g _ => by
  exact (θ_run _ _ _).mono (fun r h => ⟨fun c => (h c).2, sem_eq_zero_of_no_sems (by decide) r.2⟩) (ReferenceIdeal.Value.run m g)

/-- From arguments cut from the reference's, device `c` ends with column block `c` of the reference's result. -/
theorem algebraic : algebraic_KernelIdeal_ReferenceIdeal (hKernelIdeal := KernelIdeal.Gen.facts) (hReferenceIdeal := ReferenceIdeal.Gen.facts) := by
  intro m g m' g' _ hargs
  refine ⟨refV (m' (((0 : Dev ReferenceIdeal.nD).tc : Thread ReferenceIdeal.nD ReferenceIdeal.τ).loc ReferenceIdeal.main_arg0))
      (m' (((0 : Dev ReferenceIdeal.nD).tc : Thread ReferenceIdeal.nD ReferenceIdeal.τ).loc ReferenceIdeal.main_arg1))
      (m' (((0 : Dev ReferenceIdeal.nD).tc : Thread ReferenceIdeal.nD ReferenceIdeal.τ).loc ReferenceIdeal.main_arg2))
      (m' (((0 : Dev ReferenceIdeal.nD).tc : Thread ReferenceIdeal.nD ReferenceIdeal.τ).loc ReferenceIdeal.main_arg3)), ?_, ?_⟩
  · refine (θ_run _ _ _).mono (fun r h c => ⟨?_, ?_⟩) (KernelIdealProof.run_main m g)
    · exact ((h.1 c).1 (3 : Fin 4)).trans ((KernelIdealProof.arr_out m c).trans
        (out_block m _ _ _ _ (fun c => (hargs c).1) (fun c => (hargs c).2.1) (fun c => (hargs c).2.2.1) (fun c => (hargs c).2.2.2) c))
    · exact ⟨((h.1 c).1 (0 : Fin 4)).trans (KernelIdealProof.arr_x m c), (h.1 c).2, ((h.1 c).1 (1 : Fin 4)).trans (KernelIdealProof.arr_sx m c),
        ((h.1 c).1 (2 : Fin 4)).trans (KernelIdealProof.arr_sw m c)⟩
  · refine (θ_run _ _ _).mono (fun r h => ⟨?_, (h 0).2⟩) (ReferenceIdeal.Value.run m' g')
    exact (h 0).1.trans (ref_value _ _ _ _)

theorem claim : Cert.Claim :=
  ⟨Kernel.Gen.facts, KernelIdeal.Gen.facts, ReferenceIdeal.Gen.facts, frame_kernel, frame_ideal, frame_reference, trivial, algebraic⟩

end Cert.Proof

end
